-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S4 : Shape := ⟨1, ![4]⟩
abbrev S1x4 : Shape := ⟨2, ![1, 4]⟩
abbrev S_ : Shape := ⟨0, ![]⟩
abbrev S2048x4 : Shape := ⟨2, ![2048, 4]⟩
abbrev S2048 : Shape := ⟨1, ![2048]⟩
abbrev S1x2048 : Shape := ⟨2, ![1, 2048]⟩
abbrev S2048x2048 : Shape := ⟨2, ![2048, 2048]⟩
abbrev S4x512x4 : Shape := ⟨3, ![4, 512, 4]⟩
abbrev S4x4 : Shape := ⟨2, ![4, 4]⟩

class Facts : Prop where
  bcast_S4_S1x4_1 : S4.BroadcastsInDim S1x4 (![1] : Fin 1 → Fin S1x4.rank)
  bcast_S_S1x4 : S_.BroadcastsInDim S1x4 (![] : Fin 0 → Fin S1x4.rank)
  bcast_S1x4_S2048x4_0_1 : S1x4.BroadcastsInDim S2048x4 (![0, 1] : Fin 2 → Fin S2048x4.rank)
  bcast_S2048x1_S2048x4_0_1 : S2048x1.BroadcastsInDim S2048x4 (![0, 1] : Fin 2 → Fin S2048x4.rank)
  shapeCasts_S2048x1_S1x2048 : S2048x1.ShapeCasts S1x2048
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  natLt_1_32 : 1 < 32
  reducesTo_S2048x2048_S2048_d1 : S2048x2048.ReducesTo [1] S2048
  h_S_ : 0 < S_.numel
  bcast_S_S2048x1 : S_.BroadcastsInDim S2048x1 (![] : Fin 0 → Fin S2048x1.rank)
  shapeCasts_S2048x4_S4x512x4 : S2048x4.ShapeCasts S4x512x4
  reducesTo_S4x512x4_S4x4_d1 : S4x512x4.ReducesTo [1] S4x4
  bcast_S_S4x4 : S_.BroadcastsInDim S4x4 (![] : Fin 0 → Fin S4x4.rank)

variable [Facts]

def fn_part1 {F : FTy → Type} [FloatOps F] (main_v12 : IVec S2048x4 1) (main_v17 : IVec S2048x2048 1) (main_v20 : IVec S2048x2048 32) (main_v21 : IVec S2048x2048 32) : IVec S4x4 1 :=
  let main_v22 : IVec S2048x2048 1 := cmpi .slt main_v20 main_v21
  let main_v23 : IVec S2048x2048 1 := andi main_v17 main_v22
  let main_v24 : IVec S2048x2048 32 := (extui 32 · natLt_1_32) main_v23
  let main_c_1 : IVec S_ 32 := constantI S_ 32 0#32
  let main_v25 : IVec S2048 32 := (fun x v => Host.reduce IntOp.addi x v reducesTo_S2048x2048_S2048_d1 h_S_) main_v24 main_c_1
  let main_v26 : IVec S2048x1 32 := broadcastInDim S2048x1 ![0] bcast_S2048_S2048x1_0 main_v25
  let main_c_2 : IVec S_ 32 := constantI S_ 32 102#32
  let main_v27 : IVec S2048x1 32 := broadcastInDim S2048x1 ![] bcast_S_S2048x1 main_c_2
  let main_v28 : IVec S2048x1 1 := cmpi .slt main_v26 main_v27
  let main_v29 : IVec S2048x4 1 := broadcastInDim S2048x4 ![0, 1] bcast_S2048x1_S2048x4_0_1 main_v28
  let main_v30 : IVec S2048x4 1 := andi main_v12 main_v29
  let main_v31 : IVec S2048x4 32 := (extui 32 · natLt_1_32) main_v30
  let main_v32 : IVec S4x512x4 32 := shapeCast S4x512x4 main_v31 shapeCasts_S2048x4_S4x512x4
  let main_c_3 : IVec S_ 32 := constantI S_ 32 0#32
  let main_v33 : IVec S4x4 32 := (fun x v => Host.reduce IntOp.addi x v reducesTo_S4x512x4_S4x4_d1 h_S_) main_v32 main_c_3
  let main_c_4 : IVec S_ 32 := constantI S_ 32 192#32
  let main_v34 : IVec S4x4 32 := broadcastInDim S4x4 ![] bcast_S_S4x4 main_c_4
  let main_v35 : IVec S4x4 1 := cmpi .sle main_v33 main_v34
  main_v35

def fn {F : FTy → Type} [FloatOps F] (main_arg0 : FVec F S2048x512 .bf16) (main_arg1 : FVec F S512x16 .bf16) (main_arg2 : IVec S2048x1 32) (main_arg3 : FVec F S4x512x1024 .bf16) : IVec S4x4 1 :=
  let main_v0 : IVec S4 32 := iotaInDim S4 32 0
  let main_v1 : IVec S1x4 32 := broadcastInDim S1x4 ![1] bcast_S4_S1x4_1 main_v0
  let main_c : IVec S_ 32 := constantI S_ 32 4#32
  let main_v2 : IVec S1x4 32 := broadcastInDim S1x4 ![] bcast_S_S1x4 main_c
  let main_v3 : IVec S1x4 32 := muli main_v2 main_v1
  let main_v4 : IVec S2048x4 32 := broadcastInDim S2048x4 ![0, 1] bcast_S1x4_S2048x4_0_1 main_v3
  let main_v5 : IVec S2048x4 32 := broadcastInDim S2048x4 ![0, 1] bcast_S2048x1_S2048x4_0_1 main_arg2
  let main_v6 : IVec S2048x4 1 := cmpi .sle main_v4 main_v5
  let main_c_0 : IVec S_ 32 := constantI S_ 32 4#32
  let main_v7 : IVec S1x4 32 := broadcastInDim S1x4 ![] bcast_S_S1x4 main_c_0
  let main_v8 : IVec S1x4 32 := addi main_v3 main_v7
  let main_v9 : IVec S2048x4 32 := broadcastInDim S2048x4 ![0, 1] bcast_S2048x1_S2048x4_0_1 main_arg2
  let main_v10 : IVec S2048x4 32 := broadcastInDim S2048x4 ![0, 1] bcast_S1x4_S2048x4_0_1 main_v8
  let main_v11 : IVec S2048x4 1 := cmpi .slt main_v9 main_v10
  let main_v12 : IVec S2048x4 1 := andi main_v6 main_v11
  let main_v13 : IVec S2048 32 := iotaInDim S2048 32 0
  let main_v14 : IVec S1x2048 32 := shapeCast S1x2048 main_arg2 shapeCasts_S2048x1_S1x2048
  let main_v15 : IVec S2048x2048 32 := broadcastInDim S2048x2048 ![0, 1] bcast_S2048x1_S2048x2048_0_1 main_arg2
  let main_v16 : IVec S2048x2048 32 := broadcastInDim S2048x2048 ![0, 1] bcast_S1x2048_S2048x2048_0_1 main_v14
  let main_v17 : IVec S2048x2048 1 := cmpi .eq main_v15 main_v16
  let main_v18 : IVec S1x2048 32 := broadcastInDim S1x2048 ![1] bcast_S2048_S1x2048_1 main_v13
  let main_v19 : IVec S2048x1 32 := broadcastInDim S2048x1 ![0] bcast_S2048_S2048x1_0 main_v13
  let main_v20 : IVec S2048x2048 32 := broadcastInDim S2048x2048 ![0, 1] bcast_S1x2048_S2048x2048_0_1 main_v18
  let main_v21 : IVec S2048x2048 32 := broadcastInDim S2048x2048 ![0, 1] bcast_S2048x1_S2048x2048_0_1 main_v19
  fn_part1 (F := F) main_v12 main_v17 main_v20 main_v21
-- ==== Pre_fits_ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S4 : Shape := ⟨1, ![4]⟩
abbrev S1x4 : Shape := ⟨2, ![1, 4]⟩
abbrev S_ : Shape := ⟨0, ![]⟩
abbrev S2048x4 : Shape := ⟨2, ![2048, 4]⟩
abbrev S2048 : Shape := ⟨1, ![2048]⟩
abbrev S1x2048 : Shape := ⟨2, ![1, 2048]⟩
abbrev S2048x2048 : Shape := ⟨2, ![2048, 2048]⟩
abbrev S4x512x4 : Shape := ⟨3, ![4, 512, 4]⟩
abbrev S4x4 : Shape := ⟨2, ![4, 4]⟩

class Facts : Prop where
  bcast_S4_S1x4_1 : S4.BroadcastsInDim S1x4 (![1] : Fin 1 → Fin S1x4.rank)
  bcast_S_S1x4 : S_.BroadcastsInDim S1x4 (![] : Fin 0 → Fin S1x4.rank)
  bcast_S1x4_S2048x4_0_1 : S1x4.BroadcastsInDim S2048x4 (![0, 1] : Fin 2 → Fin S2048x4.rank)
  bcast_S2048x1_S2048x4_0_1 : S2048x1.BroadcastsInDim S2048x4 (![0, 1] : Fin 2 → Fin S2048x4.rank)
  shapeCasts_S2048x1_S1x2048 : S2048x1.ShapeCasts S1x2048
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  natLt_1_32 : 1 < 32
  reducesTo_S2048x2048_S2048_d1 : S2048x2048.ReducesTo [1] S2048
  h_S_ : 0 < S_.numel
  bcast_S_S2048x1 : S_.BroadcastsInDim S2048x1 (![] : Fin 0 → Fin S2048x1.rank)
  shapeCasts_S2048x4_S4x512x4 : S2048x4.ShapeCasts S4x512x4
  reducesTo_S4x512x4_S4x4_d1 : S4x512x4.ReducesTo [1] S4x4
  bcast_S_S4x4 : S_.BroadcastsInDim S4x4 (![] : Fin 0 → Fin S4x4.rank)

variable [Facts]

def fn_part1 {F : FTy → Type} [FloatOps F] (main_v12 : IVec S2048x4 1) (main_v17 : IVec S2048x2048 1) (main_v20 : IVec S2048x2048 32) (main_v21 : IVec S2048x2048 32) : IVec S4x4 1 :=
  let main_v22 : IVec S2048x2048 1 := cmpi .slt main_v20 main_v21
  let main_v23 : IVec S2048x2048 1 := andi main_v17 main_v22
  let main_v24 : IVec S2048x2048 32 := (extui 32 · natLt_1_32) main_v23
  let main_c_1 : IVec S_ 32 := constantI S_ 32 0#32
  let main_v25 : IVec S2048 32 := (fun x v => Host.reduce IntOp.addi x v reducesTo_S2048x2048_S2048_d1 h_S_) main_v24 main_c_1
  let main_v26 : IVec S2048x1 32 := broadcastInDim S2048x1 ![0] bcast_S2048_S2048x1_0 main_v25
  let main_c_2 : IVec S_ 32 := constantI S_ 32 102#32
  let main_v27 : IVec S2048x1 32 := broadcastInDim S2048x1 ![] bcast_S_S2048x1 main_c_2
  let main_v28 : IVec S2048x1 1 := cmpi .slt main_v26 main_v27
  let main_v29 : IVec S2048x4 1 := broadcastInDim S2048x4 ![0, 1] bcast_S2048x1_S2048x4_0_1 main_v28
  let main_v30 : IVec S2048x4 1 := andi main_v12 main_v29
  let main_v31 : IVec S2048x4 32 := (extui 32 · natLt_1_32) main_v30
  let main_v32 : IVec S4x512x4 32 := shapeCast S4x512x4 main_v31 shapeCasts_S2048x4_S4x512x4
  let main_c_3 : IVec S_ 32 := constantI S_ 32 0#32
  let main_v33 : IVec S4x4 32 := (fun x v => Host.reduce IntOp.addi x v reducesTo_S4x512x4_S4x4_d1 h_S_) main_v32 main_c_3
  let main_c_4 : IVec S_ 32 := constantI S_ 32 192#32
  let main_v34 : IVec S4x4 32 := broadcastInDim S4x4 ![] bcast_S_S4x4 main_c_4
  let main_v35 : IVec S4x4 1 := cmpi .sle main_v33 main_v34
  main_v35

def fn {F : FTy → Type} [FloatOps F] (main_arg0 : FVec F S2048x512 .bf16) (main_arg1 : FVec F S512x16 .bf16) (main_arg2 : IVec S2048x1 32) (main_arg3 : FVec F S16x512x1024 .bf16) : IVec S4x4 1 :=
  let main_v0 : IVec S4 32 := iotaInDim S4 32 0
  let main_v1 : IVec S1x4 32 := broadcastInDim S1x4 ![1] bcast_S4_S1x4_1 main_v0
  let main_c : IVec S_ 32 := constantI S_ 32 4#32
  let main_v2 : IVec S1x4 32 := broadcastInDim S1x4 ![] bcast_S_S1x4 main_c
  let main_v3 : IVec S1x4 32 := muli main_v2 main_v1
  let main_v4 : IVec S2048x4 32 := broadcastInDim S2048x4 ![0, 1] bcast_S1x4_S2048x4_0_1 main_v3
  let main_v5 : IVec S2048x4 32 := broadcastInDim S2048x4 ![0, 1] bcast_S2048x1_S2048x4_0_1 main_arg2
  let main_v6 : IVec S2048x4 1 := cmpi .sle main_v4 main_v5
  let main_c_0 : IVec S_ 32 := constantI S_ 32 4#32
  let main_v7 : IVec S1x4 32 := broadcastInDim S1x4 ![] bcast_S_S1x4 main_c_0
  let main_v8 : IVec S1x4 32 := addi main_v3 main_v7
  let main_v9 : IVec S2048x4 32 := broadcastInDim S2048x4 ![0, 1] bcast_S2048x1_S2048x4_0_1 main_arg2
  let main_v10 : IVec S2048x4 32 := broadcastInDim S2048x4 ![0, 1] bcast_S1x4_S2048x4_0_1 main_v8
  let main_v11 : IVec S2048x4 1 := cmpi .slt main_v9 main_v10
  let main_v12 : IVec S2048x4 1 := andi main_v6 main_v11
  let main_v13 : IVec S2048 32 := iotaInDim S2048 32 0
  let main_v14 : IVec S1x2048 32 := shapeCast S1x2048 main_arg2 shapeCasts_S2048x1_S1x2048
  let main_v15 : IVec S2048x2048 32 := broadcastInDim S2048x2048 ![0, 1] bcast_S2048x1_S2048x2048_0_1 main_arg2
  let main_v16 : IVec S2048x2048 32 := broadcastInDim S2048x2048 ![0, 1] bcast_S1x2048_S2048x2048_0_1 main_v14
  let main_v17 : IVec S2048x2048 1 := cmpi .eq main_v15 main_v16
  let main_v18 : IVec S1x2048 32 := broadcastInDim S1x2048 ![1] bcast_S2048_S1x2048_1 main_v13
  let main_v19 : IVec S2048x1 32 := broadcastInDim S2048x1 ![0] bcast_S2048_S2048x1_0 main_v13
  let main_v20 : IVec S2048x2048 32 := broadcastInDim S2048x2048 ![0, 1] bcast_S1x2048_S2048x2048_0_1 main_v18
  let main_v21 : IVec S2048x2048 32 := broadcastInDim S2048x2048 ![0, 1] bcast_S2048x1_S2048x2048_0_1 main_v19
  fn_part1 (F := F) main_v12 main_v17 main_v20 main_v21
-- ==== Kernel.lean ====
abbrev S2048x512 : Shape := ⟨2, ![2048, 512]⟩
abbrev S512x16 : Shape := ⟨2, ![512, 16]⟩
abbrev S2048x1 : Shape := ⟨2, ![2048, 1]⟩
abbrev S4x512x1024 : Shape := ⟨3, ![4, 512, 1024]⟩
abbrev S512x1024 : Shape := ⟨2, ![512, 1024]⟩
abbrev S2048x1024 : Shape := ⟨2, ![2048, 1024]⟩
abbrev S2048x4 : Shape := ⟨2, ![2048, 4]⟩
abbrev S3x192x1024 : Shape := ⟨3, ![3, 192, 1024]⟩
abbrev S3 : Shape := ⟨1, ![3]⟩
abbrev S_ : Shape := ⟨0, ![]⟩
abbrev S1x16 : Shape := ⟨2, ![1, 16]⟩
abbrev S2048x16 : Shape := ⟨2, ![2048, 16]⟩
abbrev S2047x16 : Shape := ⟨2, ![2047, 16]⟩
abbrev S2x16 : Shape := ⟨2, ![2, 16]⟩
abbrev S2046x16 : Shape := ⟨2, ![2046, 16]⟩
abbrev S4x16 : Shape := ⟨2, ![4, 16]⟩
abbrev S2044x16 : Shape := ⟨2, ![2044, 16]⟩
abbrev S8x16 : Shape := ⟨2, ![8, 16]⟩
abbrev S2040x16 : Shape := ⟨2, ![2040, 16]⟩
abbrev S16x16 : Shape := ⟨2, ![16, 16]⟩
abbrev S2032x16 : Shape := ⟨2, ![2032, 16]⟩
abbrev S32x16 : Shape := ⟨2, ![32, 16]⟩
abbrev S2016x16 : Shape := ⟨2, ![2016, 16]⟩
abbrev S64x16 : Shape := ⟨2, ![64, 16]⟩
abbrev S1984x16 : Shape := ⟨2, ![1984, 16]⟩
abbrev S128x16 : Shape := ⟨2, ![128, 16]⟩
abbrev S1920x16 : Shape := ⟨2, ![1920, 16]⟩
abbrev S256x16 : Shape := ⟨2, ![256, 16]⟩
abbrev S1792x16 : Shape := ⟨2, ![1792, 16]⟩
abbrev S1536x16 : Shape := ⟨2, ![1536, 16]⟩
abbrev S1024x16 : Shape := ⟨2, ![1024, 16]⟩
abbrev S16x4 : Shape := ⟨2, ![16, 4]⟩
abbrev S1x4 : Shape := ⟨2, ![1, 4]⟩
abbrev S2047x4 : Shape := ⟨2, ![2047, 4]⟩
abbrev S2x4 : Shape := ⟨2, ![2, 4]⟩
abbrev S2046x4 : Shape := ⟨2, ![2046, 4]⟩
abbrev S4x4 : Shape := ⟨2, ![4, 4]⟩
abbrev S2044x4 : Shape := ⟨2, ![2044, 4]⟩
abbrev S8x4 : Shape := ⟨2, ![8, 4]⟩
abbrev S2040x4 : Shape := ⟨2, ![2040, 4]⟩
abbrev S2032x4 : Shape := ⟨2, ![2032, 4]⟩
abbrev S32x4 : Shape := ⟨2, ![32, 4]⟩
abbrev S2016x4 : Shape := ⟨2, ![2016, 4]⟩
abbrev S64x4 : Shape := ⟨2, ![64, 4]⟩
abbrev S1984x4 : Shape := ⟨2, ![1984, 4]⟩
abbrev S128x4 : Shape := ⟨2, ![128, 4]⟩
abbrev S1920x4 : Shape := ⟨2, ![1920, 4]⟩
abbrev S256x4 : Shape := ⟨2, ![256, 4]⟩
abbrev S1792x4 : Shape := ⟨2, ![1792, 4]⟩
abbrev S512x4 : Shape := ⟨2, ![512, 4]⟩
abbrev S1536x4 : Shape := ⟨2, ![1536, 4]⟩
abbrev S1024x4 : Shape := ⟨2, ![1024, 4]⟩
abbrev S2048 : Shape := ⟨1, ![2048]⟩
abbrev S1x512x1024 : Shape := ⟨3, ![1, 512, 1024]⟩
abbrev S1x192 : Shape := ⟨2, ![1, 192]⟩
abbrev S512 : Shape := ⟨1, ![512]⟩
abbrev S512x1 : Shape := ⟨2, ![512, 1]⟩
abbrev S512x192 : Shape := ⟨2, ![512, 192]⟩
abbrev S512x512 : Shape := ⟨2, ![512, 512]⟩
abbrev S192x512 : Shape := ⟨2, ![192, 512]⟩
abbrev S192x4 : Shape := ⟨2, ![192, 4]⟩
abbrev S192x1 : Shape := ⟨2, ![192, 1]⟩
abbrev S192x2048 : Shape := ⟨2, ![192, 2048]⟩
abbrev S192x1024 : Shape := ⟨2, ![192, 1024]⟩
abbrev S1x192x1024 : Shape := ⟨3, ![1, 192, 1024]⟩
abbrev S1 : Shape := ⟨1, ![1]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S4x512x1024, .bf16⟩
  | .hbm, ⟨4, _⟩ => ⟨S512x1024, .f32⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S512x1024, .f32⟩
  | .local _ .vmem, ⟨4, _⟩ => ⟨S2048x1024, .bf16⟩
  | .local _ .vmem, ⟨5, _⟩ => ⟨S2048x4, .i32⟩
  | .local _ .vmem, ⟨6, _⟩ => ⟨S2048x4, .bf16⟩
  | .local _ .vmem, ⟨7, _⟩ => ⟨S2048x4, .bf16⟩
  | .local _ .vmem, ⟨8, _⟩ => ⟨S3x192x1024, .bf16⟩
  | .local _ .vmem, ⟨9, _⟩ => ⟨S3x192x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_114 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v287 : BitVec 32 := Scalar.addi v2 c1_i32_114
  let c4_i32_115 : BitVec 32 := 4#32
  let c0_i32_116 : BitVec 32 := 0#32
  let v288 : BitVec 1 := Scalar.cmpi .eq c4_i32_115 c0_i32_116
  let c1_i32_117 : BitVec 32 := 1#32
  let v289 : BitVec 32 := Scalar.select v288 c1_i32_117 c4_i32_115
  let v290 : BitVec 32 := Scalar.remsi v287 v289
  let c0_i32_119 : BitVec 32 := 0#32
  let v292 : BitVec 1 := Scalar.cmpi .slt v290 c0_i32_119
  let c0_i32_120 : BitVec 32 := 0#32
  let v293 : BitVec 1 := Scalar.cmpi .slt v289 c0_i32_120
  let v294 : BitVec 1 := Scalar.xori v292 v293
  let c0_i32_118 : BitVec 32 := 0#32
  let v291 : BitVec 1 := Scalar.cmpi .ne v290 c0_i32_118
  let v295 : BitVec 1 := Scalar.andi v294 v291
  let v296 : BitVec 32 := Scalar.addi v290 v289
  let v297 : BitVec 32 := Scalar.select v295 v296 v290
  let c512_i32 : BitVec 32 := 512#32
  let v298 : BitVec 32 := Scalar.muli v297 c512_i32
  let v299 : Index := Scalar.indexCast v298
  let c0_121 : Index := 0#32
  ![v299.toNat, 0]
def k0_off2 (d0 : Dev nD) (c1_i32_114 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v287 : BitVec 32 := Scalar.addi v2 c1_i32_114
  let c4_i32_115 : BitVec 32 := 4#32
  let c0_i32_116 : BitVec 32 := 0#32
  let v288 : BitVec 1 := Scalar.cmpi .eq c4_i32_115 c0_i32_116
  let c1_i32_117 : BitVec 32 := 1#32
  let v289 : BitVec 32 := Scalar.select v288 c1_i32_117 c4_i32_115
  let v290 : BitVec 32 := Scalar.remsi v287 v289
  let c0_i32_119 : BitVec 32 := 0#32
  let v292 : BitVec 1 := Scalar.cmpi .slt v290 c0_i32_119
  let c0_i32_120 : BitVec 32 := 0#32
  let v293 : BitVec 1 := Scalar.cmpi .slt v289 c0_i32_120
  let v294 : BitVec 1 := Scalar.xori v292 v293
  let c0_i32_118 : BitVec 32 := 0#32
  let v291 : BitVec 1 := Scalar.cmpi .ne v290 c0_i32_118
  let v295 : BitVec 1 := Scalar.andi v294 v291
  let v296 : BitVec 32 := Scalar.addi v290 v289
  let v297 : BitVec 32 := Scalar.select v295 v296 v290
  let c512_i32 : BitVec 32 := 512#32
  let v298 : BitVec 32 := Scalar.muli v297 c512_i32
  let v301 : Index := Scalar.indexCast v298
  let c0_122 : Index := 0#32
  ![v301.toNat, 0]
def k0_off3 (d0 : Dev nD) (c1_i32_114 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v287 : BitVec 32 := Scalar.addi v2 c1_i32_114
  let c4_i32_115 : BitVec 32 := 4#32
  let c0_i32_116 : BitVec 32 := 0#32
  let v288 : BitVec 1 := Scalar.cmpi .eq c4_i32_115 c0_i32_116
  let c1_i32_117 : BitVec 32 := 1#32
  let v289 : BitVec 32 := Scalar.select v288 c1_i32_117 c4_i32_115
  let v290 : BitVec 32 := Scalar.remsi v287 v289
  let c0_i32_119 : BitVec 32 := 0#32
  let v292 : BitVec 1 := Scalar.cmpi .slt v290 c0_i32_119
  let c0_i32_120 : BitVec 32 := 0#32
  let v293 : BitVec 1 := Scalar.cmpi .slt v289 c0_i32_120
  let v294 : BitVec 1 := Scalar.xori v292 v293
  let c0_i32_118 : BitVec 32 := 0#32
  let v291 : BitVec 1 := Scalar.cmpi .ne v290 c0_i32_118
  let v295 : BitVec 1 := Scalar.andi v294 v291
  let v296 : BitVec 32 := Scalar.addi v290 v289
  let v297 : BitVec 32 := Scalar.select v295 v296 v290
  let c512_i32 : BitVec 32 := 512#32
  let v298 : BitVec 32 := Scalar.muli v297 c512_i32
  let v326 : Index := Scalar.indexCast v298
  let c0_128 : Index := 0#32
  ![v326.toNat, 0]
def k0_dev4 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_114 : BitVec 32 := 1#32
  let v287 : BitVec 32 := Scalar.addi v2 c1_i32_114
  let c4_i32_115 : BitVec 32 := 4#32
  let c0_i32_116 : BitVec 32 := 0#32
  let v288 : BitVec 1 := Scalar.cmpi .eq c4_i32_115 c0_i32_116
  let c1_i32_117 : BitVec 32 := 1#32
  let v289 : BitVec 32 := Scalar.select v288 c1_i32_117 c4_i32_115
  let v290 : BitVec 32 := Scalar.remsi v287 v289
  let c0_i32_119 : BitVec 32 := 0#32
  let v292 : BitVec 1 := Scalar.cmpi .slt v290 c0_i32_119
  let c0_i32_120 : BitVec 32 := 0#32
  let v293 : BitVec 1 := Scalar.cmpi .slt v289 c0_i32_120
  let v294 : BitVec 1 := Scalar.xori v292 v293
  let c0_i32_118 : BitVec 32 := 0#32
  let v291 : BitVec 1 := Scalar.cmpi .ne v290 c0_i32_118
  let v295 : BitVec 1 := Scalar.andi v294 v291
  let v296 : BitVec 32 := Scalar.addi v290 v289
  let v297 : BitVec 32 := Scalar.select v295 v296 v290
  let c1_i32_140 : BitVec 32 := 1#32
  let v353 : BitVec 32 := Scalar.muli v297 c1_i32_140
  let v354 : BitVec 32 := Scalar.addi c0_i32_141 v353
  v354.toNat
def k0_dev5 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_146 : BitVec 32 := 2#32
  let v363 : BitVec 32 := Scalar.addi v2 c2_i32_146
  let c4_i32_147 : BitVec 32 := 4#32
  let c0_i32_148 : BitVec 32 := 0#32
  let v364 : BitVec 1 := Scalar.cmpi .eq c4_i32_147 c0_i32_148
  let c1_i32_149 : BitVec 32 := 1#32
  let v365 : BitVec 32 := Scalar.select v364 c1_i32_149 c4_i32_147
  let v366 : BitVec 32 := Scalar.remsi v363 v365
  let c0_i32_151 : BitVec 32 := 0#32
  let v368 : BitVec 1 := Scalar.cmpi .slt v366 c0_i32_151
  let c0_i32_152 : BitVec 32 := 0#32
  let v369 : BitVec 1 := Scalar.cmpi .slt v365 c0_i32_152
  let v370 : BitVec 1 := Scalar.xori v368 v369
  let c0_i32_150 : BitVec 32 := 0#32
  let v367 : BitVec 1 := Scalar.cmpi .ne v366 c0_i32_150
  let v371 : BitVec 1 := Scalar.andi v370 v367
  let v372 : BitVec 32 := Scalar.addi v366 v365
  let v373 : BitVec 32 := Scalar.select v371 v372 v366
  let c1_i32_173 : BitVec 32 := 1#32
  let v429 : BitVec 32 := Scalar.muli v373 c1_i32_173
  let v430 : BitVec 32 := Scalar.addi c0_i32_174 v429
  v430.toNat
def k0_dev6 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_179 : BitVec 32 := 3#32
  let v439 : BitVec 32 := Scalar.addi v2 c3_i32_179
  let c4_i32_180 : BitVec 32 := 4#32
  let c0_i32_181 : BitVec 32 := 0#32
  let v440 : BitVec 1 := Scalar.cmpi .eq c4_i32_180 c0_i32_181
  let c1_i32_182 : BitVec 32 := 1#32
  let v441 : BitVec 32 := Scalar.select v440 c1_i32_182 c4_i32_180
  let v442 : BitVec 32 := Scalar.remsi v439 v441
  let c0_i32_184 : BitVec 32 := 0#32
  let v444 : BitVec 1 := Scalar.cmpi .slt v442 c0_i32_184
  let c0_i32_185 : BitVec 32 := 0#32
  let v445 : BitVec 1 := Scalar.cmpi .slt v441 c0_i32_185
  let v446 : BitVec 1 := Scalar.xori v444 v445
  let c0_i32_183 : BitVec 32 := 0#32
  let v443 : BitVec 1 := Scalar.cmpi .ne v442 c0_i32_183
  let v447 : BitVec 1 := Scalar.andi v446 v443
  let v448 : BitVec 32 := Scalar.addi v442 v441
  let v449 : BitVec 32 := Scalar.select v447 v448 v442
  let c1_i32_206 : BitVec 32 := 1#32
  let v505 : BitVec 32 := Scalar.muli v449 c1_i32_206
  let v506 : BitVec 32 := Scalar.addi c0_i32_207 v505
  v506.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_212 : BitVec 32 := 512#32
  let v515 : BitVec 32 := Scalar.muli v2 c512_i32_212
  let v516 : Index := Scalar.indexCast v515
  let c0_213 : Index := 0#32
  ![v516.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_212 : BitVec 32 := 512#32
  let v515 : BitVec 32 := Scalar.muli v2 c512_i32_212
  let v518 : Index := Scalar.indexCast v515
  let c0_214 : Index := 0#32
  ![v518.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_212 : BitVec 32 := 512#32
  let v515 : BitVec 32 := Scalar.muli v2 c512_i32_212
  let v543 : Index := Scalar.indexCast v515
  let c0_220 : Index := 0#32
  ![v543.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x1 : Shape := ⟨2, ![2048, 1]⟩
abbrev S16x512x1024 : Shape := ⟨3, ![16, 512, 1024]⟩
abbrev S16 : Shape := ⟨1, ![16]⟩
abbrev S1x16 : Shape := ⟨2, ![1, 16]⟩
abbrev S2048x16 : Shape := ⟨2, ![2048, 16]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x16x1024 : Shape := ⟨3, ![2048, 16, 1024]⟩
abbrev S2048x16x1 : Shape := ⟨3, ![2048, 16, 1]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x1, .i32⟩
  | .hbm, ⟨3, _⟩ => ⟨S16x512x1024, .bf16⟩
  | .hbm, ⟨4, _⟩ => ⟨S16, .i32⟩
  | .hbm, ⟨5, _⟩ => ⟨S1x16, .i32⟩
  | .hbm, ⟨6, _⟩ => ⟨S2048x16, .i32⟩
  | .hbm, ⟨7, _⟩ => ⟨S2048x16, .i32⟩
  | .hbm, ⟨8, _⟩ => ⟨S2048x16, .i1⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2048x2048, .i1⟩
  | .hbm, ⟨20, _⟩ => ⟨S2048x2048, .i32⟩
  | .hbm, ⟨21, _⟩ => ⟨S_, .i32⟩
  | .hbm, ⟨22, _⟩ => ⟨S2048, .i32⟩
  | .hbm, ⟨23, _⟩ => ⟨S2048x1, .i32⟩
  | .hbm, ⟨24, _⟩ => ⟨S_, .i32⟩
  | .hbm, ⟨25, _⟩ => ⟨S2048x1, .i32⟩
  | .hbm, ⟨26, _⟩ => ⟨S2048x1, .i1⟩
  | .hbm, ⟨27, _⟩ => ⟨S2048x16, .i1⟩
  | .hbm, ⟨28, _⟩ => ⟨S2048x16, .i1⟩
  | .hbm, ⟨29, _⟩ => ⟨S2048x512, .f32⟩
  | .hbm, ⟨30, _⟩ => ⟨S16x512x1024, .f32⟩
  | .hbm, ⟨31, _⟩ => ⟨S2048x16x1024, .f32⟩
  | .hbm, ⟨32, _⟩ => ⟨S2048x16x1, .i1⟩
  | .hbm, ⟨33, _⟩ => ⟨S_, .f32⟩
  | .hbm, ⟨34, _⟩ => ⟨S_, .f32⟩
  | .hbm, ⟨35, _⟩ => ⟨S2048x16x1024, .i1⟩
  | .hbm, ⟨36, _⟩ => ⟨S2048x16x1024, .f32⟩
  | .hbm, ⟨37, _⟩ => ⟨S2048x16x1024, .f32⟩
  | .hbm, ⟨38, _⟩ => ⟨S_, .f32⟩
  | .hbm, ⟨39, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Proof.Values.lean ====
/-
  What the kernel computes on each device, as plain functions of the devices' operand blocks: every store's payload is
  one of the printed payloads of the skeleton, every load of a chunk of 512 rows is `chunk`.

  `part s d` is the compact partial product device `s` makes for chunk `d`; `sendC` / `recvC` are the two exchange
  buffers once filled; `outC` is the block a device stores.
-/
module

public import proofs.«01_k».proof.Proof.Gen.KernelIdeal.Skeleton
public import Idealize.ShloMosaic.Lib.ValueIdxCore

@[expose] public section

set_option maxRecDepth 16384

noncomputable section

namespace Cert.MoE

open Cert.KernelIdeal Cert.KernelIdeal.Gen
open Idealize.ShloMosaic Idealize.ShloMosaic.ValueIdx

variable {F : FTy → Type} [FloatOps F]

/-! ## Devices by distance -/

set_option backward.proofsInPublic true in
/-- The device `k + 1` places after `c`. -/
def up (c : Dev nD) (k : Fin 3) : Dev nD := ⟨(c.val + k.val + 1) % 4, Nat.mod_lt _ (by decide)⟩
set_option backward.proofsInPublic true in
/-- The device `k + 1` places before `c`. -/
def dn (c : Dev nD) (k : Fin 3) : Dev nD := ⟨(c.val + 3 - k.val) % 4, Nat.mod_lt _ (by decide)⟩
/-- The slot of the receive buffer that the `k`-th transfer fills. -/
def opp (k : Fin 3) : Fin 3 := ⟨2 - k.val, by omega⟩

/-- Down undoes up; -/
theorem dn_up (c : Dev nD) (k : Fin 3) : dn (up c k) k = c := by revert c k; decide
/-- up undoes down; -/
theorem up_dn (c : Dev nD) (k : Fin 3) : up (dn c k) k = c := by revert c k; decide
/-- up by the opposite distance is down; -/
theorem up_opp (c : Dev nD) (k : Fin 3) : up c (opp k) = dn c k := by revert c k; decide
/-- opposite is an involution. -/
theorem opp_opp (k : Fin 3) : opp (opp k) = k := by revert k; decide

/-! ## Chunks -/

/-- Rows `512 d … 512 d + 511` of an array of 2048 rows. -/
def chunk {n : Nat} {α : Type} (d : Dev nD) (f : (⟨2, ![2048, n]⟩ : Shape).Idx → α) : (⟨2, ![512, n]⟩ : Shape).Idx → α :=
  fun j => f (ix2 (⟨512 * d.val + (j 0).val, by have h0 : d.val < 4 := d.isLt; have h1 : (j 0).val < 512 := (j 0).isLt; omega⟩ : Fin 2048) (j 1))
/-- Row `512 d` of an array of 2048 rows. -/
def head {n : Nat} {α : Type} (d : Dev nD) (f : (⟨2, ![2048, n]⟩ : Shape).Idx → α) : (⟨2, ![1, n]⟩ : Shape).Idx → α :=
  fun j => f (ix2 (⟨512 * d.val, by have h0 : d.val < 4 := d.isLt; omega⟩ : Fin 2048) (j 1))

/-! ## The routing tables -/

/-- A device's number as the word the kernel computes it to. -/
def word (c : Dev nD) : BitVec 32 := Scalar.remsi (Scalar.divsi (Dev.word c) 1#32) 4#32
/-- The numbers of the experts, -/
abbrev i16 : IVec S1x16 32 := iota .tc S1x16 32 [1] iota_S1x16_d1_w32
/-- of the devices -/
abbrev i4 : IVec S1x4 32 := iota .tc S1x4 32 [1] iota_S1x4_d1_w32
/-- and of the compact rows. -/
abbrev i192 : IVec S1x192 32 := iota .tc S1x192 32 [1] iota_S1x192_d1_w32

section Tables

variable (ri : Vec F S2048x1 .i32)

/-- Which expert keeps which token. -/
def keep : FVec F S2048x16 .bf16 := k0_pay4 (F := F) (k0_pay1 ri) (k0_pay2 ri) k0_pay3
/-- Which device keeps which token. -/
def ksrc : IVec S2048x4 32 := k0_pay8 (keep ri) k0_pay5 k0_pay6 k0_pay7
/-- How many earlier tokens each device keeps. -/
def rexc : Vec F S2048x4 .i32 :=
  k0_pay12 (ksrc ri) (k0_pay9 (keep ri) k0_pay5 k0_pay6 k0_pay7) k0_pay10 (k0_pay11 (keep ri) k0_pay5 k0_pay6 k0_pay7)
/-- `ksrc` as floats. -/
def ksrcB : Vec F S2048x4 .bf16 := k0_pay13 (F := F) (ksrc ri)
/-- Which of device `c`'s experts keeps which token, a column at a time. -/
def klocal (c : Dev nD) : Vec F S2048x4 .bf16 := fun i =>
  if (i 1).val = 0 then k0_pay14 (word c) i16 (keep ri) (ix2 (i 0) 0)
  else if (i 1).val = 1 then k0_pay15 i16 (keep ri) (Scalar.addi (Scalar.muli (word c) 4#32) 1#32) (ix2 (i 0) 0)
  else if (i 1).val = 2 then k0_pay16 (word c) i16 (keep ri) (ix2 (i 0) 0)
  else k0_pay18 (k0_pay17 (word c) i16 (keep ri)) (ix2 (i 0) 0)

end Tables

/-- One expert's weights out of a device's four. -/
def expert (w : Vec F S4x512x1024 .bf16) (j : Fin 4) : Vec F S1x512x1024 .bf16 := fun i => w (ix3 j (i 1) (i 2))

set_option backward.proofsInPublic true in
/-- A device's four experts stacked along the contracted axis. -/
def wcat (w : Vec F S4x512x1024 .bf16) : Vec F S2048x1024 .bf16 := fun i =>
  k0_pay19 (expert w ⟨(i 0).val / 512, by have h : (i 0).val < 2048 := (i 0).isLt; omega⟩)
    (ix2 (⟨(i 0).val % 512, Nat.mod_lt _ (by decide)⟩ : Fin 512) (i 1))

/-! ## The exchange -/

variable (X : Dev nD → Vec F S2048x512 .bf16) (RI : Dev nD → Vec F S2048x1 .i32) (W : Dev nD → Vec F S4x512x1024 .bf16)

/-- The one-hot table of the compact rows of chunk `d` that device `s` keeps. -/
def slots (s d : Dev nD) : FVec F S512x192 .bf16 :=
  k0_pay29 i192 (k0_pay23 (word s) i4) (k0_pay24 (F := F) (word s) i4) (chunk d (rexc (RI s))) (head d (rexc (RI s))) (chunk d (ksrcB (RI s)))

/-- The compact partial product device `s` makes for chunk `d`. -/
def part (s d : Dev nD) : FVec F S1x192x1024 .bf16 :=
  k0_pay31 (wcat (W s)) (slots RI s d) (k0_pay30 (chunk d (X s))) (chunk d (klocal (RI s) s))

/-- Device `c`'s send buffer, filled. -/
def sendC (c : Dev nD) : Vec F S3x192x1024 .bf16 := fun i => part X RI W c (up c (i 0)) (ix3 0 (i 1) (i 2))
/-- Device `c`'s receive buffer, filled: slot `k` by the device `k + 1` places after it. -/
def recvC (c : Dev nD) : Vec F S3x192x1024 .bf16 := fun i => part X RI W (up c (i 0)) c (ix3 0 (i 1) (i 2))

/-- The contribution of device `c`'s own experts to its chunk. -/
def ownC (c : Dev nD) : FVec F S512x1024 .f32 :=
  k0_pay37 (wcat (W c)) i192 (k0_pay24 (F := F) (word c) i4)
    (k0_pay36 (F := F) (k0_pay23 (word c) i4) (chunk c (rexc (RI c))) (head c (rexc (RI c)))) (chunk c (ksrcB (RI c))) (chunk c (X c)) (chunk c (klocal (RI c) c))

/-- The block device `c` stores. -/
def outC (c : Dev nD) : FVec F S512x1024 .f32 :=
  k0_pay45 i192 (chunk c (rexc (RI c))) (head c (rexc (RI c))) (chunk c (ksrcB (RI c)))
    (k0_pay43 i192
      (k0_pay39 (ownC X RI W c) (k0_pay38 (word c) i4 i192 (chunk c (rexc (RI c))) (head c (rexc (RI c))) (chunk c (ksrcB (RI c))))
        (part X RI W (up c 2) c))
      (k0_pay41 (F := F) (word c) i4 (chunk c (rexc (RI c))) (head c (rexc (RI c)))) (k0_pay42 (word c) i4 (chunk c (ksrcB (RI c))))
      (part X RI W (up c 1) c))
    (k0_pay44 (word c) i4) 1#32 0#32 (part X RI W (up c 0) c)

/-! ## The three sends are one function -/

/-- The first send's payload, as printed, is `part`. -/
theorem part_first (c d : Dev nD) :
    k0_pay28 (wcat (W c)) (k0_pay25 (word c) i4 (chunk d (ksrcB (RI c)))) (k0_pay26 (F := F) (word c) i4 i192 (chunk d (rexc (RI c))) (head d (rexc (RI c))))
      (Scalar.ofBits .f32 0x00000000#32) (k0_pay27 (F := F)) (chunk d (X c)) (chunk d (klocal (RI c) c)) = part X RI W c d := rfl

/-- The last send's payload, as printed, is `part`. -/
theorem part_last (c d : Dev nD) :
    k0_pay35 (wcat (W c)) (k0_pay33 i192 (k0_pay23 (word c) i4) (k0_pay24 (F := F) (word c) i4) (chunk d (rexc (RI c))) (head d (rexc (RI c))) (chunk d (ksrcB (RI c))) (chunk d (X c)))
      (k0_pay34 i192 (k0_pay23 (word c) i4) (k0_pay24 (F := F) (word c) i4) (chunk d (rexc (RI c))) (head d (rexc (RI c))) (chunk d (ksrcB (RI c))) (chunk d (klocal (RI c) c)))
      = part X RI W c d := rfl

end Cert.MoE

end
-- ==== Proof.Proto.lean ====
/-
  The exchange's protocol under the rounds library, before any memory: cells, slots, schedule, debts and levels.

  A device has seven cells: the runtime's barrier semaphore, three send semaphores, three receive semaphores. Its
  barrier cell has three duties of one unit; duty `k` is paid by the device `k + 1` places before it, which hands over
  slot `k` of its own receive buffer. A send cell gives a slot of the send buffer back, a receive cell hands a slot of
  the receive buffer over, filled with the compact partial product of the device that sent it.
-/
module

public import proofs.«01_k».proof.Proof.Values
public import proofs.«01_k».proof.Proof.Gen.KernelIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the exchange's -/

/-- The protocol's ghost state, -/
abbrev UB : Type := URounds (GSem nD τ sig) (Fin 3)
/-- with the pipeline's. -/
abbrev UU : Type := UR sig nD τ × UB

local notation "𝕄" => MT nD τ sig Unit (Elt F) ℕ UU ℕ

/-- Where the pipeline's lies, -/
abbrev EP : Emb (UR sig nD τ) (MT nD τ sig Unit (Elt F) ℕ UU ℕ) := embL
/-- and where the protocol's. -/
abbrev ER : Emb UB (MT nD τ sig Unit (Elt F) ℕ UU ℕ) := embR

variable (X : Dev nD → Vec F S2048x512 .bf16) (RI : Dev nD → Vec F S2048x1 .i32) (W : Dev nD → Vec F S4x512x1024 .bf16)

/-! ## Slots and semaphores -/

/-- A slot lies within its buffer; -/
theorem slot_inb (k : Fin 3) : ∀ a, (![k.val, 0, 0] : Fin 3 → Nat) a + S1x192x1024.size a ≤ S3x192x1024.size a := by
  revert k; decide
/-- a semaphore within its array. -/
theorem sem_inb (k : Fin 3) : ∀ a, (![k.val] : Fin 1 → Nat) a + S1.size a ≤ S3.size a := by
  revert k; decide

/-- The rectangle of slot `k` of an exchange buffer. -/
abbrev slotR (k : Fin 3) : Rect S3x192x1024 := Rect.unit (s := S3x192x1024) ![k.val, 0, 0] S1x192x1024.size (slot_inb k)
/-- Slot `k` of the send buffer, -/
def sndM (k : Fin 3) : Memref sig .tc .vmem S192x1024 .bf16 :=
  ((Memref.whole cc0_scratch4).slice (slotR k) (fun _ => rfl)).squeeze S192x1024 squeezes_S1x192x1024_S192x1024
/-- and of the receive buffer. -/
def rcvM (k : Fin 3) : Memref sig .tc .vmem S192x1024 .bf16 :=
  ((Memref.whole cc0_scratch5).slice (slotR k) (fun _ => rfl)).squeeze S192x1024 squeezes_S1x192x1024_S192x1024

/-- The barrier semaphore, -/
abbrev barS : Sem sig := (SemArray.scalar (sig.barrier 0 rfl) : Sems sig S_).sem
/-- the semaphore of a send, -/
def sndS (k : Fin 3) : DmaSem sig :=
  ((cc0_scratch6.slice (Rect.unit (s := S3) ![k.val] S1.size (sem_inb k)) : DmaSems sig S1).squeeze S_ squeezes_S1_S_).sem
/-- and that of a receipt. -/
def rcvS (k : Fin 3) : DmaSem sig :=
  ((cc0_scratch7.slice (Rect.unit (s := S3) ![k.val] S1.size (sem_inb k)) : DmaSems sig S1).squeeze S_ squeezes_S1_S_).sem

/-- A device's cells. -/
inductive Cell where
  | bar
  | snd (k : Fin 3)
  | rcv (k : Fin 3)
  deriving DecidableEq

/-- The seven cells, in order. -/
def cells : List Cell := [.bar, .snd 0, .snd 1, .snd 2, .rcv 0, .rcv 1, .rcv 2]
/-- Every cell is listed, -/
theorem mem_cells (x : Cell) : x ∈ cells := by
  cases x with
  | bar => decide
  | snd k => revert k; decide
  | rcv k => revert k; decide
/-- once. -/
theorem nodup_cells : cells.Nodup := by decide

instance : Fintype Cell := ⟨⟨cells, nodup_cells⟩, mem_cells⟩

/-- Each cell's semaphore. -/
abbrev csem : Cell → SemLoc sig
  | .bar => .reg barS
  | .snd k => .dma (sndS k)
  | .rcv k => .dma (rcvS k)
/-- A device's cell. -/
abbrev kcell (c : Dev nD) (x : Cell) : GSem nD τ sig := ((c : Thread nD τ), csem x)
/-- Which cell a semaphore is. -/
def kind (s : SemLoc sig) : Option Cell := cells.find? fun x => csem x = s

/-- A cell is read back from its semaphore, -/
theorem kind_csem (x : Cell) : kind (csem x) = some x := by
  cases x with
  | bar => decide
  | snd k => revert k; decide
  | rcv k => revert k; decide
/-- so different cells are different semaphores. -/
theorem csem_injective : Function.Injective csem := fun a b h => by
  have := kind_csem a; rw [h, kind_csem] at this; exact (Option.some.inj this).symm

/-- A slot's credit. -/
abbrev N : ℕ := (rcvM 0).view.dmaCredit
/-- A slot has a positive size, -/
theorem N_pos : 0 < N := View.dmaCredit_pos _ (by decide)
/-- which a receipt's copy credits -/
theorem rcv_credit (k : Fin 3) : (rcvM k).view.dmaCredit = N := rfl
/-- and a send's. -/
theorem snd_credit (k : Fin 3) : (sndM k).view.dmaCredit = N := rfl

/-! ## Slots' contents -/

/-- Slot `k` of device `c`'s send buffer, at the contents `f` of the whole buffer. -/
def sndPts (c : Dev nD) (k : Fin 3) (f : Vec F S3x192x1024 .bf16) : sProp 𝕄 :=
  ((c : Thread nD τ).loc cc0_scratch4) ↦[(slotR k).set]{fullShare} f
/-- Slot `k` of device `c`'s receive buffer. -/
def rcvPts (c : Dev nD) (k : Fin 3) (f : Vec F S3x192x1024 .bf16) : sProp 𝕄 :=
  ((c : Thread nD τ).loc cc0_scratch5) ↦[(slotR k).set]{fullShare} f

omit [FloatOps F] in
instance sndPts_storable (c : Dev nD) (k) (f) : BI.Storable (upEmb : UEmb _ 𝕄) (sndPts (F := F) c k f) := by unfold sndPts; infer_instance
omit [FloatOps F] in
instance rcvPts_storable (c : Dev nD) (k) (f) : BI.Storable (upEmb : UEmb _ 𝕄) (rcvPts (F := F) c k f) := by unfold rcvPts; infer_instance

/-! ## The schedule -/

/-- What the device `k + 1` places before `c` hands `c` with its signal: slot `k` of its receive buffer. -/
def barPay (c : Dev nD) (k : Fin 3) : sProp 𝕄 := iprop(∃ f, rcvPts (F := F) (dn c k) k f)

/-- What a cell's duty hands its device. -/
def pay (c : Dev nD) : Cell → Fin 3 → sProp 𝕄
  | .bar, d => barPay (F := F) c d
  | .snd k, _ => sndPts c k (sendC X RI W c)
  | .rcv k, _ => rcvPts c k (recvC X RI W c)
/-- A cell's duties. -/
def dutiesOf : Cell → Finset (Fin 3)
  | .bar => Finset.univ
  | .snd _ => {0}
  | .rcv _ => {0}
/-- A duty's units. -/
def unitsOf : Option Cell → ℕ
  | some .bar => 1
  | _ => N

/-- One round, round 0. -/
def sched : Rounds.Schedule (GSem nD τ sig) (Fin 3) 𝕄 where
  duties g r := if r = 0 ∧ g.1.2 = .tc then (kind g.2).elim ∅ dutiesOf else ∅
  unitless _ := False
  amount g _ _ := unitsOf (kind g.2)
  payload g _ d := (kind g.2).elim iprop(emp) fun x => pay X RI W g.1.1 x d
  amount_pos g _ _ _ := by
    rcases kind g.2 with _ | x
    · exact N_pos
    · cases x with
      | bar => exact Nat.one_pos
      | snd k => exact N_pos
      | rcv k => exact N_pos

instance pay_storable (c : Dev nD) (x : Cell) (d : Fin 3) : BI.Storable (upEmb : UEmb _ 𝕄) (pay (F := F) X RI W c x d) := by
  cases x <;> simp only [pay] <;> first | (unfold barPay; infer_instance) | infer_instance

instance sched_payload_storable (g : GSem nD τ sig) (r : ℕ) (d : Fin 3) :
    BI.Storable (upEmb : UEmb _ 𝕄) ((sched (F := F) X RI W).payload g r d) := by
  show BI.Storable upEmb ((kind g.2).elim iprop(emp) fun x => pay X RI W g.1.1 x d)
  rcases kind g.2 with _ | x
  · exact inferInstanceAs (BI.Storable upEmb iprop(emp))
  · exact pay_storable X RI W g.1.1 x d

section Sched

variable (c : Dev nD)

/-- A cell's duties, -/
theorem duties_kcell (x : Cell) : (sched (F := F) X RI W).duties (kcell c x) 0 = dutiesOf x := by
  show (if 0 = 0 ∧ (kcell c x).1.2 = .tc then (kind (csem x)).elim ∅ dutiesOf else ∅) = _
  rw [if_pos ⟨rfl, rfl⟩, kind_csem]; rfl
/-- There is one round only. -/
theorem duties_later (g : GSem nD τ sig) : ∀ r, 1 ≤ r → (sched (F := F) X RI W).duties g r = ∅ :=
  fun r hr => by dsimp only [sched]; rw [if_neg fun h => by omega]
/-- their units, -/
theorem amount_kcell (x : Cell) (d : Fin 3) : (sched (F := F) X RI W).amount (kcell c x) 0 d = unitsOf (some x) := by
  show unitsOf (kind (csem x)) = _
  rw [kind_csem]
/-- and payloads. -/
theorem payload_kcell (x : Cell) (d : Fin 3) : (sched (F := F) X RI W).payload (kcell c x) 0 d = pay X RI W c x d := by
  show (kind (csem x)).elim iprop(emp) (fun x => pay X RI W c x d) = _
  rw [kind_csem]; rfl

/-- The payloads: of the barrier, -/
theorem payload_bar (d : Fin 3) : (sched (F := F) X RI W).payload (kcell c .bar) 0 d = barPay (F := F) c d := payload_kcell X RI W c .bar d
/-- of a send, -/
theorem payload_snd (k : Fin 3) : (sched (F := F) X RI W).payload (kcell c (.snd k)) 0 0 = sndPts c k (sendC X RI W c) := payload_kcell X RI W c (.snd k) 0
/-- of a receipt. -/
theorem payload_rcv (k : Fin 3) : (sched (F := F) X RI W).payload (kcell c (.rcv k)) 0 0 = rcvPts c k (recvC X RI W c) := payload_kcell X RI W c (.rcv k) 0

/-- The duties: of the barrier, -/
theorem mem_bar (d : Fin 3) : d ∈ (sched (F := F) X RI W).duties (kcell c .bar) 0 := by rw [duties_kcell]; exact Finset.mem_univ _
/-- of a send, -/
theorem mem_snd (k : Fin 3) : (0 : Fin 3) ∈ (sched (F := F) X RI W).duties (kcell c (.snd k)) 0 := by rw [duties_kcell]; exact Finset.mem_singleton_self _
/-- of a receipt. -/
theorem mem_rcv (k : Fin 3) : (0 : Fin 3) ∈ (sched (F := F) X RI W).duties (kcell c (.rcv k)) 0 := by rw [duties_kcell]; exact Finset.mem_singleton_self _

/-- The amounts of a round: of the barrier, -/
theorem expect_bar : (sched (F := F) X RI W).expect (kcell c .bar) 0 = 3 := by
  unfold Schedule.expect Schedule.amountOf
  rw [duties_kcell, Finset.sum_congr rfl fun d _ => amount_kcell X RI W c .bar d]; rfl
/-- of a send, -/
theorem expect_snd (k : Fin 3) : (sched (F := F) X RI W).expect (kcell c (.snd k)) 0 = N := by
  unfold Schedule.expect Schedule.amountOf; rw [duties_kcell, dutiesOf, Finset.sum_singleton, amount_kcell]; rfl
/-- of a receipt. -/
theorem expect_rcv (k : Fin 3) : (sched (F := F) X RI W).expect (kcell c (.rcv k)) 0 = N := by
  unfold Schedule.expect Schedule.amountOf; rw [duties_kcell, dutiesOf, Finset.sum_singleton, amount_kcell]; rfl

/-- The barrier cell's round hands over three slots, one of each other device's receive buffer; -/
theorem rest_bar : bigSep ((sched (F := F) X RI W).duties (kcell c .bar) 0 \ ∅) (fun d => (sched (F := F) X RI W).payload (kcell c .bar) 0 d)
    = iprop(barPay c 0 ∗ barPay c 1 ∗ barPay c 2) := by
  rw [Finset.sdiff_empty, duties_kcell, dutiesOf, bigSep_univ_eq_bigSepL [0, 1, 2] (by decide) (by decide), bigSepL_cons_cons, bigSepL_cons_cons, bigSepL_singleton,
    payload_kcell, payload_kcell, payload_kcell]
  rfl
/-- a send cell's a slot of the send buffer; -/
theorem rest_snd (k : Fin 3) : bigSep ((sched (F := F) X RI W).duties (kcell c (.snd k)) 0 \ ∅) (fun d => (sched (F := F) X RI W).payload (kcell c (.snd k)) 0 d)
    = sndPts c k (sendC X RI W c) := by
  rw [Finset.sdiff_empty, duties_kcell, dutiesOf, bigSep_singleton, payload_kcell]; rfl
/-- a receive cell's a filled slot of the receive buffer. -/
theorem rest_rcv (k : Fin 3) : bigSep ((sched (F := F) X RI W).duties (kcell c (.rcv k)) 0 \ ∅) (fun d => (sched (F := F) X RI W).payload (kcell c (.rcv k)) 0 d)
    = rcvPts c k (recvC X RI W c) := by
  rw [Finset.sdiff_empty, duties_kcell, dutiesOf, bigSep_singleton, payload_kcell]; rfl

end Sched

/-! ## Debts and levels -/

/-- The credit of the `k`-th transfer, -/
def owR (c : Dev nD) (k : Fin 3) : CellTallies nD τ sig Unit := tallyAt (kcell (up c k) (.rcv (opp k))) () N
/-- and the unit of the `k`-th signal. -/
def owB (c : Dev nD) (k : Fin 3) : CellTallies nD τ sig Unit := tallyAt (kcell (up c k) .bar) () 1
/-- What a device owes once it has signalled, in the order it sends. -/
def O₁ (c : Dev nD) : CellTallies nD τ sig Unit := 0 + owR c 2 + owR c 1 + owR c 0
/-- What a device owes at launch. -/
def O₀ (c : Dev nD) : CellTallies nD τ sig Unit := O₁ c + owB c 2 + owB c 1 + owB c 0

/-- Which semaphores a core may owe on. -/
def L (g : GSem nD τ sig) : Finset Unit := if g.1.2 = .tc then {()} else ∅
/-- A cell's level: barrier cells at 1, receive cells at 2, everything else at 0. -/
def lvOf : Option Cell → ℕ
  | some .bar => 1
  | some (.rcv _) => 2
  | _ => 0
/-- The level of a semaphore. -/
def lv (g : GSem nD τ sig) (_ : Unit) : ℕ := lvOf (kind g.2)

/-- A core may owe on its own; -/
theorem L_tc (c : Dev nD) (sm : SemLoc sig) : L ((c : Thread nD τ), sm) = {()} := if_pos rfl
/-- a cell's level is its kind's. -/
theorem lv_kcell (c : Dev nD) (x : Cell) : lv (kcell c x) () = lvOf (some x) := by
  show lvOf (kind (csem x)) = _
  rw [kind_csem]

/-- A single tally is positive at its own semaphore only. -/
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

/-- After the signals a device owes receipts only; -/
theorem O₁_pos {c : Dev nD} {g : GSem nD τ sig} {u : Unit} (h : 0 < O₁ c g u) : ∃ d k, g = kcell d (.rcv k) := by
  unfold O₁ at h
  simp only [Pi.add_apply, Finsupp.add_apply, Pi.zero_apply, Finsupp.zero_apply, zero_add] at h
  rcases (by omega : 0 < owR c 2 g u ∨ 0 < owR c 1 g u ∨ 0 < owR c 0 g u) with h | h | h <;>
    exact ⟨_, _, tally_pos h⟩

/-- at launch, receipts and barriers. -/
theorem O₀_pos {c : Dev nD} {g : GSem nD τ sig} {u : Unit} (h : 0 < O₀ c g u) :
    (∃ d k, g = kcell d (.rcv k)) ∨ ∃ d, g = kcell d .bar := by
  unfold O₀ at h
  simp only [Pi.add_apply, Finsupp.add_apply] at h
  rcases (by omega : 0 < O₁ c g u ∨ 0 < owB c 2 g u ∨ 0 < owB c 1 g u ∨ 0 < owB c 0 g u) with h | h | h | h
  · exact .inl (O₁_pos h)
  all_goals exact .inr ⟨_, tally_pos h⟩

/-- A device may wait on a semaphore of level 0 owing what it owes at launch, or nothing. -/
theorem mayWait_stage (c : Dev nD) (q : SemLoc sig) (hq : lvOf (kind q) = 0) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, k, rfl⟩ | ⟨d, rfl⟩ <;> (rw [L_tc]; exact Finset.mem_singleton_self _))
      (fun p hp => by rw [Finset.mem_singleton.mp hp]; exact le_of_eq hq)
      (fun g u hg => by
        rcases O₀_pos hg with ⟨d, k, rfl⟩ | ⟨d, rfl⟩
        · rw [lv_kcell]; show 0 < 2; decide
        · rw [lv_kcell]; show 0 < 1; decide)
  · rw [MayWait_zero]; iintro -; iempintro

/-- A device may wait on its barrier cell owing its three transfers' credits. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, k, rfl⟩ := O₁_pos hg; rw [L_tc]; exact Finset.mem_singleton_self _)
    (fun p hp => by rw [Finset.mem_singleton.mp hp]; exact le_of_eq (lv_kcell c .bar))
    (fun g u hg => by obtain ⟨d, k, rfl⟩ := O₁_pos hg; rw [lv_kcell]; show 1 < 2; decide)

end Cert.MoE

end
-- ==== Proof.Memory.lean ====
/-
  What the kernel's loads read and its stores leave, as equations between contents: a load of 512 rows is `chunk`, the
  four column stores make `klocal`, the four block stores make `wcat`, a transfer of a filled send slot makes a filled
  receive slot.
-/
module

public import proofs.«01_k».proof.Proof.Proto
public import Idealize.ShloMosaic.Lib.Ring

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (X : Dev nD → Vec F S2048x512 .bf16) (RI : Dev nD → Vec F S2048x1 .i32) (W : Dev nD → Vec F S4x512x1024 .bf16)

/-! ## Whole reads and writes -/

/-- The origin, as a function. -/
theorem hz : (![0, 0] : Fin 2 → Nat) = fun _ => 0 := funext fun a => by fin_cases a <;> rfl

/-! ## Chunk reads -/

/-- Where a rectangle of 512 rows at `512 d` places its index. -/
theorem emb_chunk {n : Nat} (d : Dev nD) {off : Fin 2 → Nat} (h : off = ![512 * d.val, 0])
    (inb : ∀ a, off a + (⟨2, ![512, n]⟩ : Shape).size a ≤ (⟨2, ![2048, n]⟩ : Shape).size a) {α : Type} (f : (⟨2, ![2048, n]⟩ : Shape).Idx → α) :
    (fun j => f ((Rect.unit (s := ⟨2, ![2048, n]⟩) off (⟨2, ![512, n]⟩ : Shape).size inb).emb j)) = chunk d f := by
  subst h
  funext j
  refine congrArg f (funext fun a => Fin.ext ?_)
  rw [Rect.emb_apply]
  fin_cases a
  · show 512 * d.val + 1 * (j 0).val = 512 * d.val + (j 0).val; omega
  · show 0 + 1 * (j 1).val = (j 1).val; omega
/-- Where a rectangle of the one row `512 d` places its index. -/
theorem emb_head {n : Nat} (d : Dev nD) {off : Fin 2 → Nat} (h : off = ![512 * d.val, 0])
    (inb : ∀ a, off a + (⟨2, ![1, n]⟩ : Shape).size a ≤ (⟨2, ![2048, n]⟩ : Shape).size a) {α : Type} (f : (⟨2, ![2048, n]⟩ : Shape).Idx → α) :
    (fun j => f ((Rect.unit (s := ⟨2, ![2048, n]⟩) off (⟨2, ![1, n]⟩ : Shape).size inb).emb j)) = head d f := by
  subst h
  funext j
  refine congrArg f (funext fun a => Fin.ext ?_)
  rw [Rect.emb_apply]
  fin_cases a
  · have h1 : (j 0).val < 1 := (j 0).isLt
    show 512 * d.val + 1 * (j 0).val = 512 * d.val; omega
  · show 0 + 1 * (j 1).val = (j 1).val; omega

section Reads

variable (d : Dev nD) {off : Fin 2 → Nat} (h : off = ![512 * d.val, 0])
include h

/-- What the loads of a chunk read: of the tokens, -/
theorem read_x (inb) (f : Vec F S2048x512 .bf16) :
    (Memref.whole cc0_stg0_0).view.readAt (Elt F) (Rect.unit (s := S2048x512) off S512x512.size inb).toLoadRect f = chunk d f := emb_chunk d h inb f
/-- of the running counts, -/
theorem read_rexc (inb) (f : Vec F S2048x4 .i32) :
    (Memref.whole cc0_scratch1).view.readAt (Elt F) (Rect.unit (s := S2048x4) off S512x4.size inb).toLoadRect f = chunk d f := emb_chunk d h inb f
/-- of their first row, -/
theorem read_base (inb) (f : Vec F S2048x4 .i32) :
    (Memref.whole cc0_scratch1).view.readAt (Elt F) (Rect.unit (s := S2048x4) off S1x4.size inb).toLoadRect f = head d f := emb_head d h inb f
/-- of the senders, -/
theorem read_ksrc (inb) (f : Vec F S2048x4 .bf16) :
    (Memref.whole cc0_scratch2).view.readAt (Elt F) (Rect.unit (s := S2048x4) off S512x4.size inb).toLoadRect f = chunk d f := emb_chunk d h inb f
/-- of the device's own experts. -/
theorem read_klocal (inb) (f : Vec F S2048x4 .bf16) :
    (Memref.whole cc0_scratch3).view.readAt (Elt F) (Rect.unit (s := S2048x4) off S512x4.size inb).toLoadRect f = chunk d f := emb_chunk d h inb f

end Reads

/-- An expert lies within the weights; -/
theorem expert_inb (j : Fin 4) : ∀ a, (![j.val, 0, 0] : Fin 3 → Nat) a + S1x512x1024.size a ≤ S4x512x1024.size a := by
  revert j; decide

/-- A load of one expert's weights. -/
theorem read_expert (j : Fin 4) (f : Vec F S4x512x1024 .bf16) :
    (Memref.whole cc0_stg2_0).view.readAt (Elt F) (Rect.unit (s := S4x512x1024) ![j.val, 0, 0] S1x512x1024.size (expert_inb j)).toLoadRect f = expert f j := by
  funext i
  refine congrArg f (funext fun a => Fin.ext ?_)
  show ((Rect.unit (s := S4x512x1024) ![j.val, 0, 0] S1x512x1024.size (expert_inb j)).emb i a : Nat) = _
  rw [Rect.emb_apply]
  fin_cases a
  · have h1 : (i 0).val < 1 := (i 0).isLt
    show j.val + 1 * (i 0).val = j.val; omega
  · show 0 + 1 * (i 1).val = (i 1).val; omega
  · show 0 + 1 * (i 2).val = (i 2).val; omega

/-! ## The column stores -/

/-- a column within the table; -/
theorem col_inb (j : Fin 4) : ∀ a, (![0, j.val] : Fin 2 → Nat) a + S2048x1.size a ≤ S2048x4.size a := by revert j; decide
/-- Column `j` of the local table. -/
abbrev colR (j : Fin 4) : Rect S2048x4 := Rect.unit (s := S2048x4) ![0, j.val] S2048x1.size (col_inb j)

/-- A store of column `j` of `g` makes the column `g`'s and leaves the rest. -/
theorem write_col (j : Fin 4) (f g : Vec F S2048x4 .bf16) (p : Vec F S2048x1 .bf16) (hp : ∀ r, p (ix2 r 0) = g (ix2 r j)) (i : S2048x4.Idx) :
    ((Memref.whole cc0_scratch3).access (colR j) : View sig .tc _ _ _).write (Elt F) f p Finset.univ i = if (i 1).val = j.val then g i else f i := by
  have he : p = ((Memref.whole cc0_scratch3).access (colR j) : View sig .tc _ _ _).read (Elt F) g := by
    funext x
    have h1 : (x 1).val < 1 := (x 1).isLt
    have hx : p x = p (ix2 (x 0) (0 : Fin 1)) := congrArg p (funext fun a => by
      fin_cases a
      · rfl
      · exact Fin.ext (by show (x 1).val = 0; omega))
    refine hx.trans ((hp (x 0)).trans ?_)
    show _ = g ((colR j).emb x)
    refine congrArg g (funext fun a => Fin.ext ?_)
    rw [Rect.emb_apply]
    fin_cases a
    · show (x 0).val = 0 + 1 * (x 0).val; omega
    · show j.val = j.val + 1 * (x 1).val; omega
  subst he
  rw [View.write_read_eq_piecewise]
  have hm : i ∈ ((Memref.whole cc0_scratch3).access (colR j) : View sig .tc _ _ _).setOn Finset.univ ↔ (i 1).val = j.val := by
    show i ∈ ((View.whole cc0_scratch3).slice (colR j)).set ↔ _
    rw [View.set_slice_whole, Rect.mem_set_unit]
    constructor
    · intro hh; have := hh 1
      have h1 : j.val ≤ (i 1).val ∧ (i 1).val < j.val + 1 := this
      omega
    · intro hh a
      have h0 : (i 0).val < 2048 := (i 0).isLt
      fin_cases a
      · show 0 ≤ (i 0).val ∧ (i 0).val < 0 + 2048; omega
      · show j.val ≤ (i 1).val ∧ (i 1).val < j.val + 1
        omega
  by_cases hi : (i 1).val = j.val
  · rw [if_pos hi, Finset.piecewise_eq_of_mem _ _ _ (hm.mpr hi)]
  · rw [if_neg hi, Finset.piecewise_eq_of_notMem _ _ _ (fun h => hi (hm.mp h))]

/-- The four column stores make the local table. -/
theorem write_klocal (ri : Vec F S2048x1 .i32) (c : Dev nD) (f : Vec F S2048x4 .bf16) :
    ((Memref.whole cc0_scratch3).access (colR 3) : View sig .tc _ _ _).write (Elt F)
      (((Memref.whole cc0_scratch3).access (colR 2) : View sig .tc _ _ _).write (Elt F)
        (((Memref.whole cc0_scratch3).access (colR 1) : View sig .tc _ _ _).write (Elt F)
          (((Memref.whole cc0_scratch3).access (colR 0) : View sig .tc _ _ _).write (Elt F) f (k0_pay14 (word c) i16 (keep ri)) Finset.univ)
          (k0_pay15 i16 (keep ri) (Scalar.addi (Scalar.muli (word c) 4#32) 1#32)) Finset.univ)
        (k0_pay16 (word c) i16 (keep ri)) Finset.univ)
      (k0_pay18 (k0_pay17 (word c) i16 (keep ri))) Finset.univ = klocal ri c := by
  refine funext fun (i : S2048x4.Idx) => ?_
  refine (write_col 3 _ (klocal ri c) _ (fun r => rfl) i).trans ?_
  rw [write_col 2 _ (klocal ri c) _ (fun r => rfl) i, write_col 1 _ (klocal ri c) _ (fun r => rfl) i, write_col 0 _ (klocal ri c) _ (fun r => rfl) i]
  have h : (i 1).val < 4 := (i 1).isLt
  have h : (i 1).val = 0 ∨ (i 1).val = 1 ∨ (i 1).val = 2 ∨ (i 1).val = 3 := by omega
  rcases h with h | h | h | h <;> simp [h]

/-! ## The block stores -/

/-- an expert's rows within the stacked weights. -/
theorem blk_inb (j : Fin 4) : ∀ a, (![512 * j.val, 0] : Fin 2 → Nat) a + S512x1024.size a ≤ S2048x1024.size a := by revert j; decide
/-- Row block `j` of the stacked experts. -/
abbrev blkR (j : Fin 4) : Rect S2048x1024 := Rect.unit (s := S2048x1024) ![512 * j.val, 0] S512x1024.size (blk_inb j)

/-- A store of an expert's weights into its row block. -/
theorem write_blk (j : Fin 4) (f : Vec F S2048x1024 .bf16) (w : Vec F S4x512x1024 .bf16) (i : S2048x1024.Idx) :
    ((Memref.whole cc0_scratch0).access (blkR j) : View sig .tc _ _ _).write (Elt F) f (k0_pay19 (expert w j)) Finset.univ i
      = if (i 0).val / 512 = j.val then wcat w i else f i := by
  have he : k0_pay19 (expert w j) = ((Memref.whole cc0_scratch0).access (blkR j) : View sig .tc _ _ _).read (Elt F) (wcat w) := by
    funext x
    have h0 : (x 0).val < 512 := (x 0).isLt
    show _ = wcat w ((blkR j).emb x)
    have e0 : (((blkR j).emb x) 0 : Nat) = 512 * j.val + (x 0).val := by
      rw [Rect.emb_apply]; show 512 * j.val + 1 * (x 0).val = _; omega
    have e1 : (((blkR j).emb x) 1 : Nat) = (x 1).val := by
      rw [Rect.emb_apply]; show 0 + 1 * (x 1).val = _; omega
    unfold wcat
    have hj : (⟨(((blkR j).emb x) 0).val / 512, by rw [e0]; omega⟩ : Fin 4) = j := Fin.ext (by show (((blkR j).emb x) 0).val / 512 = j.val; rw [e0]; omega)
    rw [hj]
    refine congrArg _ (funext fun a => Fin.ext ?_)
    fin_cases a
    · show (x 0).val = (((blkR j).emb x) 0).val % 512
      rw [e0]; omega
    · exact e1.symm
  rw [he, View.write_read_eq_piecewise]
  have hm : i ∈ ((Memref.whole cc0_scratch0).access (blkR j) : View sig .tc _ _ _).setOn Finset.univ ↔ (i 0).val / 512 = j.val := by
    show i ∈ ((View.whole cc0_scratch0).slice (blkR j)).set ↔ _
    rw [View.set_slice_whole, Rect.mem_set_unit]
    constructor
    · intro hh
      have h1 : 512 * j.val ≤ (i 0).val ∧ (i 0).val < 512 * j.val + 512 := hh 0
      omega
    · intro hh a
      have h1 : (i 1).val < 1024 := (i 1).isLt
      fin_cases a
      · show 512 * j.val ≤ (i 0).val ∧ (i 0).val < 512 * j.val + 512; omega
      · show 0 ≤ (i 1).val ∧ (i 1).val < 0 + 1024; omega
  by_cases hi : (i 0).val / 512 = j.val
  · rw [if_pos hi, Finset.piecewise_eq_of_mem _ _ _ (hm.mpr hi)]
  · rw [if_neg hi, Finset.piecewise_eq_of_notMem _ _ _ (fun h => hi (hm.mp h))]

/-- The four block stores make the stacked experts. -/
theorem write_wcat (w : Vec F S4x512x1024 .bf16) (f : Vec F S2048x1024 .bf16) :
    ((Memref.whole cc0_scratch0).access (blkR 3) : View sig .tc _ _ _).write (Elt F)
      (((Memref.whole cc0_scratch0).access (blkR 2) : View sig .tc _ _ _).write (Elt F)
        (((Memref.whole cc0_scratch0).access (blkR 1) : View sig .tc _ _ _).write (Elt F)
          (((Memref.whole cc0_scratch0).access (blkR 0) : View sig .tc _ _ _).write (Elt F) f (k0_pay19 (expert w 0)) Finset.univ)
          (k0_pay20 (expert w 1)) Finset.univ)
        (k0_pay21 (expert w 2)) Finset.univ)
      (k0_pay22 (expert w 3)) Finset.univ = wcat w := by
  rw [show k0_pay20 (expert w 1) = k0_pay19 (expert w 1) from rfl, show k0_pay21 (expert w 2) = k0_pay19 (expert w 2) from rfl,
    show k0_pay22 (expert w 3) = k0_pay19 (expert w 3) from rfl]
  refine funext fun (i : S2048x1024.Idx) => ?_
  refine (write_blk 3 _ w i).trans ?_
  rw [write_blk 2 _ w i, write_blk 1 _ w i, write_blk 0 _ w i]
  have h0 : (i 0).val < 2048 := (i 0).isLt
  have hd : (i 0).val / 512 = 0 ∨ (i 0).val / 512 = 1 ∨ (i 0).val / 512 = 2 ∨ (i 0).val / 512 = 3 := by omega
  rcases hd with h | h | h | h <;> simp [h]

/-! ## Slots -/

/-- The cells of a send slot; -/
theorem snd_set (k : Fin 3) : (sndM k).view.set = (slotR k).set := by
  show (((View.whole cc0_scratch4).slice (slotR k)).reshape S192x1024 _).set = _
  rw [View.set_reshape, View.set_slice_whole]
/-- of a receive slot. -/
theorem rcv_set (k : Fin 3) : (rcvM k).view.set = (slotR k).set := by
  show (((View.whole cc0_scratch5).slice (slotR k)).reshape S192x1024 _).set = _
  rw [View.set_reshape, View.set_slice_whole]

/-- Membership in a slot is by the first coordinate. -/
theorem mem_slot (k : Fin 3) (i : S3x192x1024.Idx) : i ∈ (slotR k).set ↔ i 0 = k := by
  rw [Rect.mem_set_unit]
  constructor
  · intro hh
    have h1 : k.val ≤ (i 0).val ∧ (i 0).val < k.val + 1 := hh 0
    exact Fin.ext (by omega)
  · intro hh a
    have h1 : (i 1).val < 192 := (i 1).isLt
    have h2 : (i 2).val < 1024 := (i 2).isLt
    fin_cases a
    · show k.val ≤ (i 0).val ∧ (i 0).val < k.val + 1
      rw [hh]; omega
    · show 0 ≤ (i 1).val ∧ (i 1).val < 0 + 192; omega
    · show 0 ≤ (i 2).val ∧ (i 2).val < 0 + 1024; omega

/-- Two slots share no cell; -/
theorem slot_disjoint (j k : Fin 3) (h : j ≠ k) : Disjoint (slotR j).set (slotR k).set :=
  Finset.disjoint_left.mpr fun i hj hk => h (((mem_slot j i).mp hj).symm.trans ((mem_slot k i).mp hk))
/-- the three are the whole buffer. -/
theorem slot_cover : (Finset.univ : Finset (Fin 3)).biUnion (fun k => (slotR k).set) = Finset.univ :=
  Finset.eq_univ_of_forall fun i => Finset.mem_biUnion.mpr ⟨i 0, Finset.mem_univ _, (mem_slot (i 0) i).mpr rfl⟩

/-- A slot is the elements of its view. -/
theorem sndPts_view (c : Dev nD) (k : Fin 3) (f : Vec F S3x192x1024 .bf16) :
    ((sndM k).view.loc (c : Thread nD τ) ↦[(sndM k).view.set]{fullShare} f : sProp 𝕄) = sndPts c k f := by
  unfold sndPts
  exact congrArg (fun I => (((c : Thread nD τ).loc cc0_scratch4) ↦[I]{fullShare} f : sProp 𝕄)) (snd_set k)
/-- A receive slot owned is its view owned. -/
theorem rcvPts_view (c : Dev nD) (k : Fin 3) (f : Vec F S3x192x1024 .bf16) :
    ((rcvM k).view.loc (c : Thread nD τ) ↦[(rcvM k).view.set]{fullShare} f : sProp 𝕄) = rcvPts c k f := by
  unfold rcvPts
  exact congrArg (fun I => (((c : Thread nD τ).loc cc0_scratch5) ↦[I]{fullShare} f : sProp 𝕄)) (rcv_set k)

/-- The send buffer is its three slots, -/
theorem snd_split (c : Dev nD) (f : Vec F S3x192x1024 .bf16) :
    ((((c : Thread nD τ).loc cc0_scratch4) ↦{fullShare} f) : sProp 𝕄) = iprop(sndPts c 0 f ∗ sndPts c 1 f ∗ sndPts c 2 f) := by
  rw [Ring.pointsTo_blocks (ℓ := (c : Thread nD τ).loc cc0_scratch4) (fun k : Fin 3 => (slotR k).set) slot_disjoint slot_cover f,
    bigSep_univ_eq_bigSepL [0, 1, 2] (by decide) (by decide), bigSepL_cons_cons, bigSepL_cons_cons, bigSepL_singleton]
  rfl
/-- and the receive buffer too. -/
theorem rcv_split (c : Dev nD) (f : Vec F S3x192x1024 .bf16) :
    ((((c : Thread nD τ).loc cc0_scratch5) ↦{fullShare} f) : sProp 𝕄) = iprop(rcvPts c 0 f ∗ rcvPts c 1 f ∗ rcvPts c 2 f) := by
  rw [Ring.pointsTo_blocks (ℓ := (c : Thread nD τ).loc cc0_scratch5) (fun k : Fin 3 => (slotR k).set) slot_disjoint slot_cover f,
    bigSep_univ_eq_bigSepL [0, 1, 2] (by decide) (by decide), bigSepL_cons_cons, bigSepL_cons_cons, bigSepL_singleton]
  rfl

/-- Where a slot's rectangle places an index. -/
theorem emb_slot (k : Fin 3) (x : S1x192x1024.Idx) : (slotR k).emb x = ix3 k (x 1) (x 2) := by
  funext a
  refine Fin.ext ?_
  rw [Rect.emb_apply]
  fin_cases a
  · have h1 : (x 0).val < 1 := (x 0).isLt
    show k.val + 1 * (x 0).val = k.val; omega
  · show 0 + 1 * (x 1).val = (x 1).val; omega
  · show 0 + 1 * (x 2).val = (x 2).val; omega

/-- An index of a single-slot array starts with 0. -/
theorem ix3_zero (x : S1x192x1024.Idx) : (ix3 (0 : Fin 1) (x 1) (x 2) : S1x192x1024.Idx) = x := by
  funext a
  fin_cases a
  · exact Fin.ext (by have h1 : (x 0).val < 1 := (x 0).isLt; show 0 = (x 0).val; omega)
  · rfl
  · rfl

/-- The store of a partial product into its send slot. -/
theorem write_snd (c : Dev nD) (k : Fin 3) (f : Vec F S3x192x1024 .bf16) :
    sndPts (F := F) c k (((Memref.whole cc0_scratch4).access (slotR k) : View sig .tc _ _ _).write (Elt F) f (part X RI W c (up c k)) Finset.univ)
      = sndPts c k (sendC X RI W c) := by
  unfold sndPts
  refine pointsTo_congr fun i hi => ?_
  have he : part X RI W c (up c k) = ((Memref.whole cc0_scratch4).access (slotR k) : View sig .tc _ _ _).read (Elt F) (sendC X RI W c) := by
    funext x
    show _ = sendC X RI W c ((slotR k).emb x)
    rw [emb_slot]
    show _ = part X RI W c (up c k) (ix3 0 (x 1) (x 2))
    rw [ix3_zero]
  rw [he, View.write_read_eq_piecewise]
  refine Finset.piecewise_eq_of_mem _ _ _ ?_
  show i ∈ ((View.whole cc0_scratch4).slice (slotR k)).set
  rw [View.set_slice_whole]; exact hi

/-- The load of a filled receive slot. -/
theorem read_rcv (c : Dev nD) (k : Fin 3) :
    (Memref.whole cc0_scratch5).view.readAt (Elt F) (slotR k).toLoadRect (recvC X RI W c) = part X RI W (up c k) c := by
  funext x
  show recvC X RI W c ((slotR k).emb x) = _
  rw [emb_slot]
  show part X RI W (up c k) c (ix3 0 (x 1) (x 2)) = _
  rw [ix3_zero]

/-- A transfer of a filled send slot fills the receive slot. -/
theorem land (c : Dev nD) (k : Fin 3) (f : Vec F S3x192x1024 .bf16) :
    ((rcvM (opp k)).view.loc (up c k : Thread nD τ) ↦[(rcvM (opp k)).view.set]{fullShare}
        ((rcvM (opp k)).view.write (Elt F) f ((sndM k).view.read (Elt F) (sendC X RI W c)) Finset.univ) : sProp 𝕄)
      = rcvPts (up c k) (opp k) (recvC X RI W (up c k)) := by
  rw [← rcvPts_view]
  refine pointsTo_congr fun i hi => ?_
  have he : (sndM k).view.read (Elt F) (sendC X RI W c) = (rcvM (opp k)).view.read (Elt F) (recvC X RI W (up c k)) := by
    funext x
    show sendC X RI W c ((slotR k).emb (Shape.reshapeEquiv _ x)) = recvC X RI W (up c k) ((slotR (opp k)).emb (Shape.reshapeEquiv _ x))
    rw [emb_slot, emb_slot]
    show part X RI W c (up c k) _ = part X RI W (up (up c k) (opp k)) (up c k) _
    rw [up_opp, dn_up]
  rw [he]
  exact (congrFun (View.write_read_eq_piecewise (v := (rcvM (opp k)).view) (Val := Elt F) f (recvC X RI W (up c k)) Finset.univ) i).trans
    (Finset.piecewise_eq_of_mem _ _ _ hi)

end Cert.MoE

end
-- ==== Proof.Steps.lean ====
/-
  The exchange's steps as rules of the body: a signal, a transfer, a wait on each kind of cell.
-/
module

public import proofs.«01_k».proof.Proof.Memory

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- No loop variants. -/
abbrev 𝒱₀ : Variants := Variants.none

variable (X : Dev nD → Vec F S2048x512 .bf16) (RI : Dev nD → Vec F S2048x1 .i32) (W : Dev nD → Vec F S4x512x1024 .bf16)
variable (K : Dev nD × Cell → ℕ)

/-- Every cell's invariant, and that every cell's first round is reached. -/
def records : sProp 𝕄 :=
  iprop((bigSep Finset.univ fun dx : Dev nD × Cell => cellInv ER (sched X RI W) (K dx) (kcell dx.1 dx.2))
    ∗ bigSep Finset.univ fun dx : Dev nD × Cell => reached ER (kcell dx.1 dx.2) 0)

instance records_persistent : BI.Persistent (records X RI W K) := by unfold records; infer_instance

/-- A cell's invariant, from the records; -/
theorem inv_at (d : Dev nD) (x : Cell) : records X RI W K ⊢ cellInv ER (sched X RI W) (K (d, x)) (kcell d x) := by
  have e : (bigSep Finset.univ fun dx : Dev nD × Cell => (cellInv ER (sched X RI W) (K dx) (kcell dx.1 dx.2) : sProp 𝕄))
      ⊢ cellInv ER (sched X RI W) (K (d, x)) (kcell d x) := bigSep_elim (Finset.mem_univ (d, x))
  unfold records
  iintro ⟨H, -⟩
  iapply e; iexact H
/-- and that its first round is reached. -/
theorem reached_at (d : Dev nD) (x : Cell) : records X RI W K ⊢ reached ER (kcell d x) 0 := by
  have e : (bigSep Finset.univ fun dx : Dev nD × Cell => (reached ER (kcell dx.1 dx.2) 0 : sProp 𝕄)) ⊢ reached ER (kcell d x) 0 :=
    bigSep_elim (Finset.mem_univ (d, x))
  unfold records
  iintro ⟨-, H⟩
  iapply e; iexact H

section Steps

variable (c : Dev nD)

/-- The `j`-th signal: its unit paid, slot `j` of the device's own receive buffer handed over. -/
theorem signal_step {α : Type} {Q : α → sProp 𝕄} {k : PUnit → Prog (TpuEff nD τ sig (Elt F) Λ₀ .tc) α}
    (n : Dev nD) (j : Fin 3) (hn : n = up c j) (u : ℕ) (hu : u = 1) {O : CellTallies nD τ sig Unit} (O' : CellTallies nD τ sig Unit)
    (hO : O = O' + owB c j) (Ws : Waits sig Unit) (f : Vec F S3x192x1024 .bf16) :
    iprop(records X RI W K ∗ owes (c : Thread nD τ) O Ws ∗ dutyTok ER (kcell (up c j) .bar) 0 j ∗ rcvPts c j f)
      ⊢ iprop((owes (c : Thread nD τ) O' Ws -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS u) k) Q) := by
  subst hn; subst hu
  iintro ⟨#HR, HO, Ht, Hs⟩
  iapply (Rounds.wp_signal 𝒱₀ ER (sched X RI W) (c : Thread nD τ) none (dst := (up c j : Thread nD τ)) (κ := K (up c j, .bar))
      (d := j) (mem_bar X RI W (up c j) j) (amount_kcell X RI W (up c j) .bar j) () O' hO)
  isplitr; · iapply (inv_at X RI W K (up c j) .bar); iexact HR
  isplitl [HO]; · iexact HO
  isplitl [Ht]; · iexact Ht
  isplitl [Hs]
  · iapply (Entails.of_eq (payload_bar X RI W (up c j) j).symm)
    unfold barPay; rw [dn_up]
    iexists f; iexact Hs
  iapply (reached_at X RI W K (up c j) .bar); iexact HR

/-- The `j`-th transfer: a filled send slot goes into the slot its device handed over. -/
theorem send_step {α : Type} {Q : α → sProp 𝕄} {k : PUnit → Prog (TpuEff nD τ sig (Elt F) Λ₀ .tc) α}
    (n : Dev nD) (j : Fin 3) (hn : n = up c j) (src dst : Memref sig .tc .vmem S192x1024 .bf16) (hsm : src = sndM j) (hdm : dst = rcvM (opp j))
    (s s' : DmaSem sig) (hs : s = sndS j) (hs' : s' = rcvS (opp j))
    {hsc : (dst : Memref sig (Dev.tc n : Thread nD τ).2.kind .vmem S192x1024 .bf16).view.ref.isScScratch = false}
    {hsrc : src.view.WordExact} {hdst : dst.view.WordExact}
    {hsem : DmaTarget.Typed .vmem (.dma s') (.remote (Dev.tc n : Thread nD τ) dst (.dma s) hsc)}
    {O : CellTallies nD τ sig Unit} (O' : CellTallies nD τ sig Unit) (hO : O = O' + owR c j) (Ws : Waits sig Unit) (f : Vec F S3x192x1024 .bf16) :
    iprop(records X RI W K ∗ sndPts c j (sendC X RI W c) ∗ rcvPts (up c j) (opp j) f ∗ owes (c : Thread nD τ) O Ws
        ∗ dutyTok ER (kcell c (.snd j)) 0 0 ∗ dutyTok ER (kcell (up c j) (.rcv (opp j))) 0 0)
      ⊢ iprop(((cred (tallyAt (kcell c (.snd j)) () N) ∗ owes (c : Thread nD τ) O' Ws)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma s) hsc) (.dma s') hsrc hdst hsem) k) Q) := by
  subst hn hsm hdm hs hs'
  iintro ⟨#HR, Hs, Hd, HO, Ht, Ht'⟩
  ihave Hs := (Entails.of_eq (sndPts_view c j _).symm) $$ Hs
  ihave Hd := (Entails.of_eq (rcvPts_view (up c j) (opp j) f).symm) $$ Hd
  iapply (Rounds.wp_send_pointsTo 𝒱₀ ER (sched X RI W) (c : Thread nD τ) none (κ₁ := K (c, .snd j)) (κ₂ := K (up c j, .rcv (opp j)))
    (c' := (up c j : Thread nD τ)) (src := sndM j) (dst := rcvM (opp j)) (sS := .dma (sndS j)) (sem := .dma (rcvS (opp j)))
    (r₁ := 0) (r₂ := 0) (d₁ := 0) (d₂ := 0) (fs := sendC X RI W c) (fd := f)
    (mem_snd X RI W c j) (mem_rcv X RI W (up c j) (opp j))
    () () N (rcv_credit (opp j)) (amount_kcell X RI W c (.snd j) 0) (amount_kcell X RI W (up c j) (.rcv (opp j)) 0) O' hO (W := Ws)
    (Entails.of_eq ((sndPts_view c j _).trans (payload_snd X RI W c j).symm))
    (Entails.of_eq ((land X RI W c j f).trans (payload_rcv X RI W (up c j) (opp j)).symm)))
  isplitr; · iapply (inv_at X RI W K c (.snd j)); iexact HR
  isplitr; · iapply (inv_at X RI W K (up c j) (.rcv (opp j))); iexact HR
  isplitl [Hs]; · iexact Hs
  isplitl [Hd]; · iexact Hd
  isplitl [HO]; · iexact HO
  isplitl [Ht]; · iexact Ht
  isplitr; · iapply (reached_at X RI W K c (.snd j)); iexact HR
  isplitl [Ht']; · iexact Ht'
  iapply (reached_at X RI W K (up c j) (.rcv (opp j))); iexact HR

/-- The wait on the barrier, owing the transfers: one slot of each other device's receive buffer comes with it. -/
theorem wait_bar_step {α : Type} {Q : α → sProp 𝕄} {k : PUnit → Prog (TpuEff nD τ sig (Elt F) Λ₀ .tc) α}
    (u : ℕ) (hu : u = 3) (Ws : Waits sig Unit) :
    iprop(records X RI W K ∗ levAts L lv ∗ cred (tallyAt (kcell c .bar) () 3) ∗ owes (c : Thread nD τ) (O₁ c) Ws ∗ atPos ER (kcell c .bar) 0 ∅ 0)
      ⊢ iprop(((owes (c : Thread nD τ) (O₁ c) (insert (SemLoc.reg barS, ()) Ws) ∗ atPos ER (kcell c .bar) (0 + 1) ∅ 0
              ∗ (∃ f, rcvPts (F := F) (up c 0) 2 f) ∗ (∃ f, rcvPts (F := F) (up c 1) 1 f) ∗ ∃ f, rcvPts (F := F) (up c 2) 0 f)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS u) k) Q) := by
  subst hu
  iintro ⟨#HR, #Hlev, Hc, HO, Ha⟩ Hk
  iapply (Rounds.wp_wait_rest_token 𝒱₀ ER (sched X RI W) (c : Thread nD τ) none (κ := K (c, .bar))
      (wpE_semWait_eq 𝒱₀ (c : Thread nD τ) none Set.univ) (Set.mem_univ _) () (O := O₁ c) (W := Ws) (R := 0) (m := 0) (T := ∅)
      (by rw [expect_bar])) $$ [Hc HO Ha]
  · isplitr; · iapply (inv_at X RI W K c .bar); iexact HR
    isplitl [Hc]; · iexact Hc
    isplitl [HO]; · iexact HO
    isplitr; · iapply (mayWait_bar c); iexact Hlev
    iexact Ha
  iintro ⟨HO, Ha, -, Hpay⟩
  ihave Hp := (Entails.of_eq (rest_bar X RI W c)) $$ Hpay
  unfold barPay
  rw [show dn c 0 = up c 2 from by revert c; decide, show dn c 1 = up c 1 from by revert c; decide, show dn c 2 = up c 0 from by revert c; decide]
  icases Hp with ⟨H0, H1, H2⟩
  iapply Hk
  isplitl [HO]; · iexact HO
  isplitl [Ha]; · iexact Ha
  isplitl [H2]; · iexact H2
  isplitl [H1]; · iexact H1
  iexact H0

/-- The wait on a receive cell: its slot comes filled. -/
theorem wait_rcv_step {α : Type} {Q : α → sProp 𝕄} {k : PUnit → Prog (TpuEff nD τ sig (Elt F) Λ₀ .tc) α}
    (j : Fin 3) (s : DmaSem sig) (hs : s = rcvS j) (src dst : Memref sig .tc .vmem S192x1024 .bf16) (hd : dst.view.dmaCredit = N)
    {hsrc : src.view.WordExact} {hdst : dst.view.WordExact} (Ws : Waits sig Unit) :
    iprop(records X RI W K ∗ cred (tallyAt (kcell c (.rcv j)) () N) ∗ owes (c : Thread nD τ) 0 Ws ∗ atPos ER (kcell c (.rcv j)) 0 ∅ 0)
      ⊢ iprop(((owes (c : Thread nD τ) 0 (insert (SemLoc.dma (rcvS j), ()) Ws) ∗ atPos ER (kcell c (.rcv j)) (0 + 1) ∅ 0 ∗ rcvPts c j (recvC X RI W c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#HR, Hc, HO, Ha⟩ Hk
  rw [← hd]
  iapply (Rounds.wp_wait_rest_token 𝒱₀ ER (sched X RI W) (c : Thread nD τ) none (κ := K (c, .rcv j))
      (wpE_waitDma2_eq 𝒱₀ (c : Thread nD τ) none Set.univ) (Set.mem_univ _) () (O := 0) (W := Ws) (R := 0) (m := 0) (T := ∅)
      (by rw [Nat.zero_add, expect_rcv])) $$ [Hc HO Ha]
  · isplitr; · iapply (inv_at X RI W K c (.rcv j)); iexact HR
    isplitl [Hc]; · iexact Hc
    isplitl [HO]; · iexact HO
    isplitr; · rw [MayWait_zero]; iempintro
    iexact Ha
  iintro ⟨HO, Ha, -, Hpay⟩
  ihave Hp := (Entails.of_eq (rest_rcv X RI W c j)) $$ Hpay
  iapply Hk
  isplitl [HO]; · iexact HO
  isplitl [Ha]; · iexact Ha
  iexact Hp

/-- The wait on a send cell: its slot comes back. -/
theorem wait_snd_step {α : Type} {Q : α → sProp 𝕄} {k : PUnit → Prog (TpuEff nD τ sig (Elt F) Λ₀ .tc) α}
    (j : Fin 3) (s : DmaSem sig) (hs : s = sndS j) (src dst : Memref sig .tc .vmem S192x1024 .bf16) (hd : dst.view.dmaCredit = N)
    {hsrc : src.view.WordExact} {hdst : dst.view.WordExact} (Ws : Waits sig Unit) :
    iprop(records X RI W K ∗ cred (tallyAt (kcell c (.snd j)) () N) ∗ owes (c : Thread nD τ) 0 Ws ∗ atPos ER (kcell c (.snd j)) 0 ∅ 0)
      ⊢ iprop(((owes (c : Thread nD τ) 0 (insert (SemLoc.dma (sndS j), ()) Ws) ∗ atPos ER (kcell c (.snd j)) (0 + 1) ∅ 0 ∗ sndPts c j (sendC X RI W c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  subst hs
  iintro ⟨#HR, Hc, HO, Ha⟩ Hk
  rw [← hd]
  iapply (Rounds.wp_wait_rest_token 𝒱₀ ER (sched X RI W) (c : Thread nD τ) none (κ := K (c, .snd j))
      (wpE_waitDma2_eq 𝒱₀ (c : Thread nD τ) none Set.univ) (Set.mem_univ _) () (O := 0) (W := Ws) (R := 0) (m := 0) (T := ∅)
      (by rw [Nat.zero_add, expect_snd])) $$ [Hc HO Ha]
  · isplitr; · iapply (inv_at X RI W K c (.snd j)); iexact HR
    isplitl [Hc]; · iexact Hc
    isplitl [HO]; · iexact HO
    isplitr; · rw [MayWait_zero]; iempintro
    iexact Ha
  iintro ⟨HO, Ha, -, Hpay⟩
  ihave Hp := (Entails.of_eq (rest_snd X RI W c j)) $$ Hpay
  iapply Hk
  isplitl [HO]; · iexact HO
  isplitl [Ha]; · iexact Ha
  iexact Hp

/-- A cell whose round is over gives its counter back, at zero. -/
theorem close_cell (x : Cell) : iprop(records X RI W K ∗ atPos ER (kcell c x) (0 + 1) ∅ 0) ⊢ iprop(|={Set.univ}=> semVal (kcell c x) 0) := by
  iintro ⟨#HR, Ha⟩
  iapply (Rounds.cell_close ER (sched X RI W) (Set.mem_univ (K (c, x))) (fun h => h) (R := 0 + 1) (duties_later X RI W (kcell c x)))
  isplitr; · iapply (inv_at X RI W K c x); iexact HR
  iexact Ha

end Steps

end Cert.MoE

end
-- ==== Proof.Body.lean ====
/-
  The kernel's body on one device, run from its staged operands, its scratch and its share of the exchange.
-/
module

public import proofs.«01_k».proof.Proof.Steps
public import proofs.«01_k».proof.Proof.Gen.KernelIdeal.Points

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x512 .bf16) (RI : Dev nD → Vec F S2048x1 .i32) (W : Dev nD → Vec F S4x512x1024 .bf16)
variable (K : Dev nD × Cell → ℕ)

/-! ## The devices and rows the kernel names -/

/-- The targets of the three signals and of the three copies are the devices above, one, two and three. -/
theorem dev1_eq (c : Dev nD) : (⟨k0_dev1 c, k0_dev1_lt c⟩ : Dev nD) = up c 0 := by revert c; decide +kernel
theorem dev2_eq (c : Dev nD) : (⟨k0_dev2 c, k0_dev2_lt c⟩ : Dev nD) = up c 1 := by revert c; decide +kernel
theorem dev3_eq (c : Dev nD) : (⟨k0_dev3 c, k0_dev3_lt c⟩ : Dev nD) = up c 2 := by revert c; decide +kernel
theorem dev4_eq (c : Dev nD) : (⟨k0_dev4 c, k0_dev4_lt c⟩ : Dev nD) = up c 0 := by revert c; decide +kernel
theorem dev5_eq (c : Dev nD) : (⟨k0_dev5 c, k0_dev5_lt c⟩ : Dev nD) = up c 1 := by revert c; decide +kernel
theorem dev6_eq (c : Dev nD) : (⟨k0_dev6 c, k0_dev6_lt c⟩ : Dev nD) = up c 2 := by revert c; decide +kernel

/-- The slot that a copy reads, the slot that it writes and its semaphores are numbered by the distance. -/
theorem off1_eq (c : Dev nD) (k : Fin 3) : k0_off1 c (BitVec.ofNat 32 (1 + k.val)) = ![512 * (up c k).val, 0] := by revert c k; decide +kernel
theorem off2_eq (c : Dev nD) (k : Fin 3) : k0_off2 c (BitVec.ofNat 32 (1 + k.val)) = ![512 * (up c k).val, 0] := by revert c k; decide +kernel
theorem off3_eq (c : Dev nD) (k : Fin 3) : k0_off3 c (BitVec.ofNat 32 (1 + k.val)) = ![512 * (up c k).val, 0] := by revert c k; decide +kernel

/-! ## Loads and stores -/

/-- A load that reads `v`. -/
theorem load_step (c : Dev nD) {cs : CoreSpace} {s : Shape} {e : EltTy} (m : Memref sig .tc cs s e) {α : Type} {Q : α → sProp 𝕄} {r : LoadRect s}
    {hl : m.view.LoadsAt r} {k : (r.shape.Idx → Elt F e) → Prog (TpuEff nD τ sig (Elt F) Λ₀ .tc) α}
    {f : Buf (Elt F) (m.view.loc (c : Thread nD τ))} (v : r.shape.Idx → Elt F e) (hv : m.view.readAt (Elt F) r f = v) :
    (m.view.loc (c : Thread nD τ) ↦{fullShare} f : sProp 𝕄)
      ⊢ iprop(((m.view.loc (c : Thread nD τ) ↦{fullShare} f) -∗ wp frame (wpE (defs₀ (F := F)) 𝒱₀ (c : Thread nD τ) none) Set.univ (k v) Q)
          -∗ wp frame (wpE (defs₀ (F := F)) 𝒱₀ (c : Thread nD τ) none) Set.univ (.op (.load m r hl) k) Q) := by
  subst hv
  exact wp_load 𝒱₀ (c : Thread nD τ) none Set.univ (m := m) (Finset.subset_univ _)

/-- A store that leaves `g`. -/
theorem store_step (c : Dev nD) {cs : CoreSpace} {s : Shape} {e : EltTy} (m : Memref sig .tc cs s e) {α : Type} {Q : α → sProp 𝕄} {r : Rect s}
    {w : r.shape.Idx → Elt F e} {hx : (m.access r).Stores Finset.univ}
    {hm : (Finset.univ : Finset r.shape.Idx) = Finset.univ ∨ ∀ a, r.stride a = 1} {k : PUnit → Prog (TpuEff nD τ sig (Elt F) Λ₀ .tc) α}
    {f : Buf (Elt F) (m.view.loc (c : Thread nD τ))} (g : Buf (Elt F) (m.view.loc (c : Thread nD τ)))
    (hg : (m.access r).write (Elt F) f w Finset.univ = g) :
    (m.view.loc (c : Thread nD τ) ↦{fullShare} f : sProp 𝕄)
      ⊢ iprop(((m.view.loc (c : Thread nD τ) ↦{fullShare} g) -∗ wp frame (wpE (defs₀ (F := F)) 𝒱₀ (c : Thread nD τ) none) Set.univ (k ⟨⟩) Q)
          -∗ wp frame (wpE (defs₀ (F := F)) 𝒱₀ (c : Thread nD τ) none) Set.univ (.op (.store m r w Finset.univ hx hm) k) Q) := by
  subst hg
  exact wp_store 𝒱₀ (c : Thread nD τ) none Set.univ (m := m) (r := r) (Mk := Finset.univ) (Finset.subset_univ _)

/-- A load of a slot of the send buffer whose value is not used. -/
theorem load_snd (c : Dev nD) (j : Fin 3) {α : Type} {Q : α → sProp 𝕄} {hl : (Memref.whole cc0_scratch4).view.LoadsAt (slotR j).toLoadRect}
    {k : ((slotR j).toLoadRect.shape.Idx → Elt F .bf16) → Prog (TpuEff nD τ sig (Elt F) Λ₀ .tc) α} (f : Vec F S3x192x1024 .bf16) :
    sndPts c j f
      ⊢ iprop((∀ v, sndPts c j f -∗ wp frame (wpE (defs₀ (F := F)) 𝒱₀ (c : Thread nD τ) none) Set.univ (k v) Q)
          -∗ wp frame (wpE (defs₀ (F := F)) 𝒱₀ (c : Thread nD τ) none) Set.univ (.op (.load (Memref.whole cc0_scratch4) (slotR j).toLoadRect hl) k) Q) := by
  iintro Hs Hk
  unfold sndPts
  iapply (wp_load_rect 𝒱₀ (c : Thread nD τ) none Set.univ (m := Memref.whole cc0_scratch4) (r := slotR j) (S := (slotR j).set)
    (f := f) (by rw [show ((Memref.whole cc0_scratch4).access (slotR j)).set = (slotR j).set from View.set_slice_whole _ _])) $$ Hs
  iintro Hs
  iapply Hk
  iexact Hs

/-- The store of a partial product into its send slot. -/
theorem store_snd (c : Dev nD) (j : Fin 3) {α : Type} {Q : α → sProp 𝕄} {w : (slotR j).shape.Idx → Elt F .bf16}
    {hx : ((Memref.whole cc0_scratch4).access (slotR j)).Stores Finset.univ}
    {hm : (Finset.univ : Finset (slotR j).shape.Idx) = Finset.univ ∨ ∀ a, (slotR j).stride a = 1}
    {k : PUnit → Prog (TpuEff nD τ sig (Elt F) Λ₀ .tc) α} (f : Vec F S3x192x1024 .bf16) (hw : w = part X RI W c (up c j)) :
    sndPts c j f
      ⊢ iprop((sndPts c j (sendC X RI W c) -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole cc0_scratch4) (slotR j) w Finset.univ hx hm) k) Q) := by
  subst hw
  iintro Hs Hk
  unfold sndPts
  iapply (wp_store 𝒱₀ (c : Thread nD τ) none Set.univ (m := Memref.whole cc0_scratch4) (r := slotR j) (Mk := Finset.univ) (S := (slotR j).set)
    (f := f) (by rw [View.setOn_univ, show ((Memref.whole cc0_scratch4).access (slotR j)).set = (slotR j).set from View.set_slice_whole _ _])) $$ Hs
  iintro Hs
  iapply Hk
  have e := write_snd X RI W c j f
  unfold sndPts at e
  iapply (Entails.of_eq e)
  iexact Hs

/-- The load of a filled slot of the receive buffer. -/
theorem load_rcv (c : Dev nD) (j : Fin 3) {α : Type} {Q : α → sProp 𝕄} {hl : (Memref.whole cc0_scratch5).view.LoadsAt (slotR j).toLoadRect}
    {k : ((slotR j).toLoadRect.shape.Idx → Elt F .bf16) → Prog (TpuEff nD τ sig (Elt F) Λ₀ .tc) α} :
    rcvPts c j (recvC X RI W c)
      ⊢ iprop((rcvPts c j (recvC X RI W c) -∗ wp frame (wpE (defs₀ (F := F)) 𝒱₀ (c : Thread nD τ) none) Set.univ (k (part X RI W (up c j) c)) Q)
          -∗ wp frame (wpE (defs₀ (F := F)) 𝒱₀ (c : Thread nD τ) none) Set.univ (.op (.load (Memref.whole cc0_scratch5) (slotR j).toLoadRect hl) k) Q) := by
  rw [← read_rcv X RI W c j]
  iintro Hs Hk
  unfold rcvPts
  iapply (wp_load_rect 𝒱₀ (c : Thread nD τ) none Set.univ (m := Memref.whole cc0_scratch5) (r := slotR j) (S := (slotR j).set)
    (f := recvC X RI W c) (by rw [show ((Memref.whole cc0_scratch5).access (slotR j)).set = (slotR j).set from View.set_slice_whole _ _])) $$ Hs
  iintro Hs
  iapply Hk
  iexact Hs

/-! ## Before and after -/

/-- A buffer of device `c` held whole at `f`. -/
abbrev at_ (c : Dev nD) (b : Ref sig .tc) (f : Buf (Elt F) ((c : Thread nD τ).loc b)) : sProp 𝕄 := ((c : Thread nD τ).loc b) ↦{fullShare} f
/-- A scratch buffer at some contents. -/
abbrev some_ (c : Dev nD) (b : Ref sig .tc) : sProp 𝕄 := iprop(∃ f : Buf (Elt F) ((c : Thread nD τ).loc b), at_ c b f)

/-- A device's positions at its cells' first rounds. -/
def positions (c : Dev nD) : sProp 𝕄 :=
  iprop(atPos ER (kcell c .bar) 0 ∅ 0 ∗ atPos ER (kcell c (.snd 0)) 0 ∅ 0 ∗ atPos ER (kcell c (.snd 1)) 0 ∅ 0 ∗ atPos ER (kcell c (.snd 2)) 0 ∅ 0
    ∗ atPos ER (kcell c (.rcv 0)) 0 ∅ 0 ∗ atPos ER (kcell c (.rcv 1)) 0 ∅ 0 ∗ atPos ER (kcell c (.rcv 2)) 0 ∅ 0)
/-- The tokens of the `k`-th signal and transfer. -/
def tokens (c : Dev nD) (k : Fin 3) : sProp 𝕄 :=
  iprop(dutyTok ER (kcell (up c k) .bar) 0 k ∗ dutyTok ER (kcell c (.snd k)) 0 0 ∗ dutyTok ER (kcell (up c k) (.rcv (opp k))) 0 0)
/-- A device's share of the exchange: every cell's record, its positions and its tokens. -/
def ghost (c : Dev nD) : sProp 𝕄 := iprop(records X RI W K ∗ positions c ∗ tokens c 0 ∗ tokens c 1 ∗ tokens c 2)
/-- Its credits: three units on its barrier, a slot's on each receive cell. -/
def credits (c : Dev nD) : sProp 𝕄 :=
  iprop(cred (tallyAt (kcell c .bar) () 3) ∗ cred (tallyAt (kcell c (.rcv 0)) () N) ∗ cred (tallyAt (kcell c (.rcv 1)) () N)
    ∗ cred (tallyAt (kcell c (.rcv 2)) () N))
/-- The scratch buffers. -/
def scratch (c : Dev nD) : sProp 𝕄 :=
  iprop(some_ (F := F) c cc0_scratch0 ∗ some_ (F := F) c cc0_scratch1 ∗ some_ (F := F) c cc0_scratch2 ∗ some_ (F := F) c cc0_scratch3
    ∗ some_ (F := F) c cc0_scratch4 ∗ some_ (F := F) c cc0_scratch5)
/-- Every cell of a device closed, at zero. -/
def closed (c : Dev nD) : sProp 𝕄 :=
  iprop(semVal (kcell c .bar) 0 ∗ semVal (kcell c (.snd 0)) 0 ∗ semVal (kcell c (.snd 1)) 0 ∗ semVal (kcell c (.snd 2)) 0
    ∗ semVal (kcell c (.rcv 0)) 0 ∗ semVal (kcell c (.rcv 1)) 0 ∗ semVal (kcell c (.rcv 2)) 0)

/-- What the body starts from, -/
def pre (c : Dev nD) (Ws : Waits sig Unit) (g : Vec F S512x1024 .f32) : sProp 𝕄 :=
  iprop(ghost X RI W K c ∗ credits (F := F) c ∗ levAts L lv ∗ scratch (F := F) c ∗ owes (c : Thread nD τ) (O₀ c) Ws
    ∗ at_ c cc0_stg0_0 (X c) ∗ at_ c cc0_stg1_0 (RI c) ∗ at_ c cc0_stg2_0 (W c) ∗ at_ c cc0_stg3_0 g)
/-- and ends in. -/
def post (c : Dev nD) : sProp 𝕄 :=
  iprop(closed (F := F) c ∗ scratch (F := F) c ∗ (∃ Ws, owes (c : Thread nD τ) 0 Ws)
    ∗ at_ c cc0_stg0_0 (X c) ∗ at_ c cc0_stg1_0 (RI c) ∗ at_ c cc0_stg2_0 (W c) ∗ at_ c cc0_stg3_0 (outC X RI W c))

set_option maxHeartbeats 4000000 in
/-- The body runs from `pre` to `post`. -/
theorem sound_body (c : Dev nD) (Ws : Waits sig Unit) (g : Vec F S512x1024 .f32) (Kt : PUnit → sProp 𝕄) :
    iprop(pre X RI W K c Ws g ∗ (post X RI W c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _) cc0_scratch6 cc0_scratch7) Kt := by
  rw [cc0_body_eq_skeleton]; unfold cc0_body_skel
  rw [k0_part19_eq_skeleton]; unfold k0_part19_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold pre ghost positions tokens credits scratch some_ at_
  iintro ⟨⟨⟨#HR, ⟨HaB, HaS0, HaS1, HaS2, HaR0, HaR1, HaR2⟩, ⟨HtB0, HtS0, HtR0⟩, ⟨HtB1, HtS1, HtR1⟩, HtB2, HtS2, HtR2⟩, ⟨HcB, HcR0, HcR1, HcR2⟩, #Hlev,
    ⟨⟨%f0, Hw⟩, ⟨%f1, Hr⟩, ⟨%f2, Hks⟩, ⟨%f3, Hkl⟩, ⟨%f4, Hsnd⟩, ⟨%f5, Hrcv⟩⟩, HO, Hx, Hri, He, Hout⟩, Hk⟩
  ihave Hsnd' := (Entails.of_eq (snd_split c f4)) $$ Hsnd
  icases Hsnd' with ⟨Hs0, Hs1, Hs2⟩
  ihave Hrcv' := (Entails.of_eq (rcv_split c f5)) $$ Hrcv
  icases Hrcv' with ⟨Hv0, Hv1, Hv2⟩
  -- the three signals
  iapply (signal_step X RI W K c _ 0 (dev1_eq c) _ rfl (O₁ c + owB c 2 + owB c 1) rfl Ws f5) $$ [HO HtB0 Hv0]
  · isplitr; · iexact HR
    isplitl [HO]; · iexact HO
    isplitl [HtB0]; · iexact HtB0
    iexact Hv0
  iintro HO
  iapply (signal_step X RI W K c _ 1 (dev2_eq c) _ rfl (O₁ c + owB c 2) rfl Ws f5) $$ [HO HtB1 Hv1]
  · isplitr; · iexact HR
    isplitl [HO]; · iexact HO
    isplitl [HtB1]; · iexact HtB1
    iexact Hv1
  iintro HO
  iapply (signal_step X RI W K c _ 2 (dev3_eq c) _ rfl (O₁ c) rfl Ws f5) $$ [HO HtB2 Hv2]
  · isplitr; · iexact HR
    isplitl [HO]; · iexact HO
    isplitl [HtB2]; · iexact HtB2
    iexact Hv2
  iintro HO
  -- the routing tables
  iapply (load_step c (Memref.whole cc0_stg1_0) (RI c) (Memref.readAt_unit_zero (Elt F) cc0_stg1_0 hz _ (RI c))) $$ Hri; iintro Hri
  iapply (load_step c (Memref.whole cc0_scratch1) _ rfl) $$ Hr; iintro Hr
  iapply (store_step c (Memref.whole cc0_scratch1) (rexc (RI c)) (Memref.write_access_unit_zero_univ (Elt F) cc0_scratch1 hz _ f1 (rexc (RI c)))) $$ Hr; iintro Hr
  iapply (load_step c (Memref.whole cc0_scratch2) _ rfl) $$ Hks; iintro Hks
  iapply (store_step c (Memref.whole cc0_scratch2) (ksrcB (RI c)) (Memref.write_access_unit_zero_univ (Elt F) cc0_scratch2 hz _ f2 (ksrcB (RI c)))) $$ Hks; iintro Hks
  iapply (load_step c (Memref.whole cc0_scratch3) _ rfl) $$ Hkl; iintro Hkl
  iapply (store_step c (Memref.whole cc0_scratch3) (((Memref.whole cc0_scratch3).access (colR 0) : View sig .tc _ _ _).write (Elt F) f3 (k0_pay14 (word c) i16 (keep (RI c))) Finset.univ) (rfl)) $$ Hkl; iintro Hkl
  iapply (load_step c (Memref.whole cc0_scratch3) _ rfl) $$ Hkl; iintro Hkl
  iapply (store_step c (Memref.whole cc0_scratch3) (((Memref.whole cc0_scratch3).access (colR 1) : View sig .tc _ _ _).write (Elt F) (((Memref.whole cc0_scratch3).access (colR 0) : View sig .tc _ _ _).write (Elt F) f3 (k0_pay14 (word c) i16 (keep (RI c))) Finset.univ) (k0_pay15 i16 (keep (RI c)) (Scalar.addi (Scalar.muli (word c) 4#32) 1#32)) Finset.univ) (rfl)) $$ Hkl; iintro Hkl
  iapply (load_step c (Memref.whole cc0_scratch3) _ rfl) $$ Hkl; iintro Hkl
  iapply (store_step c (Memref.whole cc0_scratch3) (((Memref.whole cc0_scratch3).access (colR 2) : View sig .tc _ _ _).write (Elt F) (((Memref.whole cc0_scratch3).access (colR 1) : View sig .tc _ _ _).write (Elt F) (((Memref.whole cc0_scratch3).access (colR 0) : View sig .tc _ _ _).write (Elt F) f3 (k0_pay14 (word c) i16 (keep (RI c))) Finset.univ) (k0_pay15 i16 (keep (RI c)) (Scalar.addi (Scalar.muli (word c) 4#32) 1#32)) Finset.univ) (k0_pay16 (word c) i16 (keep (RI c))) Finset.univ) (rfl)) $$ Hkl; iintro Hkl
  iapply (load_step c (Memref.whole cc0_scratch3) _ rfl) $$ Hkl; iintro Hkl
  iapply (store_step c (Memref.whole cc0_scratch3) (klocal (RI c) c) (write_klocal (RI c) c f3)) $$ Hkl; iintro Hkl
  -- the experts, stacked
  iapply (load_step c (Memref.whole cc0_stg2_0) (expert (W c) 0) (read_expert 0 (W c))) $$ He; iintro He
  iapply (load_step c (Memref.whole cc0_scratch0) _ rfl) $$ Hw; iintro Hw
  iapply (store_step c (Memref.whole cc0_scratch0) (((Memref.whole cc0_scratch0).access (blkR 0) : View sig .tc _ _ _).write (Elt F) f0 (k0_pay19 (expert (W c) 0)) Finset.univ) (rfl)) $$ Hw; iintro Hw
  iapply (load_step c (Memref.whole cc0_stg2_0) (expert (W c) 1) (read_expert 1 (W c))) $$ He; iintro He
  iapply (load_step c (Memref.whole cc0_scratch0) _ rfl) $$ Hw; iintro Hw
  iapply (store_step c (Memref.whole cc0_scratch0) (((Memref.whole cc0_scratch0).access (blkR 1) : View sig .tc _ _ _).write (Elt F) (((Memref.whole cc0_scratch0).access (blkR 0) : View sig .tc _ _ _).write (Elt F) f0 (k0_pay19 (expert (W c) 0)) Finset.univ) (k0_pay20 (expert (W c) 1)) Finset.univ) (rfl)) $$ Hw; iintro Hw
  iapply (load_step c (Memref.whole cc0_stg2_0) (expert (W c) 2) (read_expert 2 (W c))) $$ He; iintro He
  iapply (load_step c (Memref.whole cc0_scratch0) _ rfl) $$ Hw; iintro Hw
  iapply (store_step c (Memref.whole cc0_scratch0) (((Memref.whole cc0_scratch0).access (blkR 2) : View sig .tc _ _ _).write (Elt F) (((Memref.whole cc0_scratch0).access (blkR 1) : View sig .tc _ _ _).write (Elt F) (((Memref.whole cc0_scratch0).access (blkR 0) : View sig .tc _ _ _).write (Elt F) f0 (k0_pay19 (expert (W c) 0)) Finset.univ) (k0_pay20 (expert (W c) 1)) Finset.univ) (k0_pay21 (expert (W c) 2)) Finset.univ) (rfl)) $$ Hw; iintro Hw
  iapply (load_step c (Memref.whole cc0_stg2_0) (expert (W c) 3) (read_expert 3 (W c))) $$ He; iintro He
  iapply (load_step c (Memref.whole cc0_scratch0) _ rfl) $$ Hw; iintro Hw
  iapply (store_step c (Memref.whole cc0_scratch0) (wcat (W c)) (write_wcat (W c) f0)) $$ Hw; iintro Hw
  iapply (load_step c (Memref.whole cc0_scratch0) (wcat (W c)) (Memref.readAt_unit_zero (Elt F) cc0_scratch0 hz _ (wcat (W c)))) $$ Hw; iintro Hw
  -- the barrier
  iapply (wait_bar_step X RI W K c _ rfl Ws) $$ [HcB HO HaB]
  · isplitr; · iexact HR
    isplitr; · iexact Hlev
    isplitl [HcB]; · iexact HcB
    isplitl [HO]; · iexact HO
    iexact HaB
  iintro ⟨HO, HaB, ⟨%g0, Hd0⟩, ⟨%g1, Hd1⟩, %g2, Hd2⟩
  -- chunk of device `up c 0`
  iapply (load_step c (Memref.whole cc0_scratch1) (chunk (up c 0) (rexc (RI c))) (read_rexc _ (off1_eq c 0) _ _)) $$ Hr; iintro Hr
  iapply (load_step c (Memref.whole cc0_scratch1) (head (up c 0) (rexc (RI c))) (read_base _ (off2_eq c 0) _ _)) $$ Hr; iintro Hr
  iapply (load_step c (Memref.whole cc0_scratch2) (chunk (up c 0) (ksrcB (RI c))) (read_ksrc _ (off1_eq c 0) _ _)) $$ Hks; iintro Hks
  iapply (load_step c (Memref.whole cc0_stg0_0) (chunk (up c 0) (X c)) (read_x _ (off3_eq c 0) _ _)) $$ Hx; iintro Hx
  iapply (load_step c (Memref.whole cc0_scratch3) (chunk (up c 0) (klocal (RI c) c)) (read_klocal _ (off1_eq c 0) _ _)) $$ Hkl; iintro Hkl
  iapply (load_snd c 0 f4) $$ Hs0; iintro %_ Hs0
  iapply (store_snd X RI W c 0 f4 (part_first X RI W c (up c 0))) $$ Hs0; iintro Hs0
  iapply (send_step X RI W K c _ 0 (dev4_eq c) _ _ rfl rfl _ _ rfl rfl (0 + owR c 2 + owR c 1) rfl (insert (SemLoc.reg barS, ()) Ws) g0) $$ [Hs0 Hd0 HO HtS0 HtR0]
  · isplitr; · iexact HR
    isplitl [Hs0]; · iexact Hs0
    isplitl [Hd0]; · iexact Hd0
    isplitl [HO]; · iexact HO
    isplitl [HtS0]; · iexact HtS0
    iexact HtR0
  iintro ⟨HcS0, HO⟩
  -- chunk of device `up c 1`
  iapply (load_step c (Memref.whole cc0_scratch1) (chunk (up c 1) (rexc (RI c))) (read_rexc _ (off1_eq c 1) _ _)) $$ Hr; iintro Hr
  iapply (load_step c (Memref.whole cc0_scratch1) (head (up c 1) (rexc (RI c))) (read_base _ (off2_eq c 1) _ _)) $$ Hr; iintro Hr
  iapply (load_step c (Memref.whole cc0_scratch2) (chunk (up c 1) (ksrcB (RI c))) (read_ksrc _ (off1_eq c 1) _ _)) $$ Hks; iintro Hks
  iapply (load_step c (Memref.whole cc0_stg0_0) (chunk (up c 1) (X c)) (read_x _ (off3_eq c 1) _ _)) $$ Hx; iintro Hx
  iapply (load_step c (Memref.whole cc0_scratch3) (chunk (up c 1) (klocal (RI c) c)) (read_klocal _ (off1_eq c 1) _ _)) $$ Hkl; iintro Hkl
  iapply (load_snd c 1 f4) $$ Hs1; iintro %_ Hs1
  iapply (store_snd X RI W c 1 f4 (rfl)) $$ Hs1; iintro Hs1
  iapply (send_step X RI W K c _ 1 (dev5_eq c) _ _ rfl rfl _ _ rfl rfl (0 + owR c 2) rfl (insert (SemLoc.reg barS, ()) Ws) g1) $$ [Hs1 Hd1 HO HtS1 HtR1]
  · isplitr; · iexact HR
    isplitl [Hs1]; · iexact Hs1
    isplitl [Hd1]; · iexact Hd1
    isplitl [HO]; · iexact HO
    isplitl [HtS1]; · iexact HtS1
    iexact HtR1
  iintro ⟨HcS1, HO⟩
  -- chunk of device `up c 2`
  iapply (load_step c (Memref.whole cc0_scratch1) (chunk (up c 2) (rexc (RI c))) (read_rexc _ (off1_eq c 2) _ _)) $$ Hr; iintro Hr
  iapply (load_step c (Memref.whole cc0_scratch1) (head (up c 2) (rexc (RI c))) (read_base _ (off2_eq c 2) _ _)) $$ Hr; iintro Hr
  iapply (load_step c (Memref.whole cc0_scratch2) (chunk (up c 2) (ksrcB (RI c))) (read_ksrc _ (off1_eq c 2) _ _)) $$ Hks; iintro Hks
  iapply (load_step c (Memref.whole cc0_stg0_0) (chunk (up c 2) (X c)) (read_x _ (off3_eq c 2) _ _)) $$ Hx; iintro Hx
  iapply (load_step c (Memref.whole cc0_scratch3) (chunk (up c 2) (klocal (RI c) c)) (read_klocal _ (off1_eq c 2) _ _)) $$ Hkl; iintro Hkl
  iapply (load_snd c 2 f4) $$ Hs2; iintro %_ Hs2
  iapply (store_snd X RI W c 2 f4 (part_last X RI W c (up c 2))) $$ Hs2; iintro Hs2
  iapply (send_step X RI W K c _ 2 (dev6_eq c) _ _ rfl rfl _ _ rfl rfl 0 rfl (insert (SemLoc.reg barS, ()) Ws) g2) $$ [Hs2 Hd2 HO HtS2 HtR2]
  · isplitr; · iexact HR
    isplitl [Hs2]; · iexact Hs2
    isplitl [Hd2]; · iexact Hd2
    isplitl [HO]; · iexact HO
    isplitl [HtS2]; · iexact HtS2
    iexact HtR2
  iintro ⟨HcS2, HO⟩
  -- the own chunk
  iapply (load_step c (Memref.whole cc0_scratch1) (chunk c (rexc (RI c))) (read_rexc _ (k0_off4_eq c) _ _)) $$ Hr; iintro Hr
  iapply (load_step c (Memref.whole cc0_scratch1) (head c (rexc (RI c))) (read_base _ (k0_off5_eq c) _ _)) $$ Hr; iintro Hr
  iapply (load_step c (Memref.whole cc0_scratch2) (chunk c (ksrcB (RI c))) (read_ksrc _ (k0_off4_eq c) _ _)) $$ Hks; iintro Hks
  iapply (load_step c (Memref.whole cc0_stg0_0) (chunk c (X c)) (read_x _ (k0_off6_eq c) _ _)) $$ Hx; iintro Hx
  iapply (load_step c (Memref.whole cc0_scratch3) (chunk c (klocal (RI c) c)) (read_klocal _ (k0_off4_eq c) _ _)) $$ Hkl; iintro Hkl
  iapply (load_step c (Memref.whole cc0_scratch1) (chunk c (rexc (RI c))) (read_rexc _ (k0_off4_eq c) _ _)) $$ Hr; iintro Hr
  iapply (load_step c (Memref.whole cc0_scratch1) (head c (rexc (RI c))) (read_base _ (k0_off5_eq c) _ _)) $$ Hr; iintro Hr
  iapply (load_step c (Memref.whole cc0_scratch2) (chunk c (ksrcB (RI c))) (read_ksrc _ (k0_off4_eq c) _ _)) $$ Hks; iintro Hks
  -- the three chunks received
  iapply (wait_rcv_step X RI W K c 2 _ rfl _ _ (rcv_credit 2) _) $$ [HcR2 HO HaR2]
  · isplitr; · iexact HR
    isplitl [HcR2]; · iexact HcR2
    isplitl [HO]; · iexact HO
    iexact HaR2
  iintro ⟨HO, HaR2, Hv2⟩
  iapply (load_rcv X RI W c 2) $$ Hv2; iintro Hv2
  iapply (wait_rcv_step X RI W K c 1 _ rfl _ _ (rcv_credit 1) _) $$ [HcR1 HO HaR1]
  · isplitr; · iexact HR
    isplitl [HcR1]; · iexact HcR1
    isplitl [HO]; · iexact HO
    iexact HaR1
  iintro ⟨HO, HaR1, Hv1⟩
  iapply (load_rcv X RI W c 1) $$ Hv1; iintro Hv1
  iapply (wait_rcv_step X RI W K c 0 _ rfl _ _ (rcv_credit 0) _) $$ [HcR0 HO HaR0]
  · isplitr; · iexact HR
    isplitl [HcR0]; · iexact HcR0
    isplitl [HO]; · iexact HO
    iexact HaR0
  iintro ⟨HO, HaR0, Hv0⟩
  iapply (load_rcv X RI W c 0) $$ Hv0; iintro Hv0
  -- the three sends done
  iapply (wait_snd_step X RI W K c 0 _ rfl _ _ (snd_credit 0) _) $$ [HcS0 HO HaS0]
  · isplitr; · iexact HR
    isplitl [HcS0]; · iexact HcS0
    isplitl [HO]; · iexact HO
    iexact HaS0
  iintro ⟨HO, HaS0, Hs0⟩
  iapply (wait_snd_step X RI W K c 1 _ rfl _ _ (snd_credit 1) _) $$ [HcS1 HO HaS1]
  · isplitr; · iexact HR
    isplitl [HcS1]; · iexact HcS1
    isplitl [HO]; · iexact HO
    iexact HaS1
  iintro ⟨HO, HaS1, Hs1⟩
  iapply (wait_snd_step X RI W K c 2 _ rfl _ _ (snd_credit 2) _) $$ [HcS2 HO HaS2]
  · isplitr; · iexact HR
    isplitl [HcS2]; · iexact HcS2
    isplitl [HO]; · iexact HO
    iexact HaS2
  iintro ⟨HO, HaS2, Hs2⟩
  -- the result
  iapply (load_step c (Memref.whole cc0_stg3_0) _ rfl) $$ Hout; iintro Hout
  iapply (store_step c (Memref.whole cc0_stg3_0) (outC X RI W c) (Memref.write_access_unit_zero_univ (Elt F) cc0_stg3_0 hz _ g (outC X RI W c))) $$ Hout; iintro Hout
  -- every cell closes
  imod (close_cell X RI W K c .bar) $$ [HaB] with HzB
  · isplitr; · iexact HR
    iexact HaB
  imod (close_cell X RI W K c (.snd 0)) $$ [HaS0] with HzS0
  · isplitr; · iexact HR
    iexact HaS0
  imod (close_cell X RI W K c (.snd 1)) $$ [HaS1] with HzS1
  · isplitr; · iexact HR
    iexact HaS1
  imod (close_cell X RI W K c (.snd 2)) $$ [HaS2] with HzS2
  · isplitr; · iexact HR
    iexact HaS2
  imod (close_cell X RI W K c (.rcv 0)) $$ [HaR0] with HzR0
  · isplitr; · iexact HR
    iexact HaR0
  imod (close_cell X RI W K c (.rcv 1)) $$ [HaR1] with HzR1
  · isplitr; · iexact HR
    iexact HaR1
  imod (close_cell X RI W K c (.rcv 2)) $$ [HaR2] with HzR2
  · isplitr; · iexact HR
    iexact HaR2
  rw [wp_ret]; imodintro
  iapply Hk
  unfold post closed scratch some_ at_
  isplitl [HzB HzS0 HzS1 HzS2 HzR0 HzR1 HzR2]
  · isplitl [HzB]; · iexact HzB
    isplitl [HzS0]; · iexact HzS0
    isplitl [HzS1]; · iexact HzS1
    isplitl [HzS2]; · iexact HzS2
    isplitl [HzR0]; · iexact HzR0
    isplitl [HzR1]; · iexact HzR1
    iexact HzR2
  isplitl [Hw Hr Hks Hkl Hs0 Hs1 Hs2 Hv0 Hv1 Hv2]
  · isplitl [Hw]; · iexists _; iexact Hw
    isplitl [Hr]; · iexists _; iexact Hr
    isplitl [Hks]; · iexists _; iexact Hks
    isplitl [Hkl]; · iexists _; iexact Hkl
    isplitl [Hs0 Hs1 Hs2]
    · iexists (sendC X RI W c); iapply (Entails.of_eq (snd_split c (sendC X RI W c)).symm)
      isplitl [Hs0]; · iexact Hs0
      isplitl [Hs1]; · iexact Hs1
      iexact Hs2
    · iexists (recvC X RI W c); iapply (Entails.of_eq (rcv_split c (recvC X RI W c)).symm)
      isplitl [Hv0]; · iexact Hv0
      isplitl [Hv1]; · iexact Hv1
      iexact Hv2
  isplitl [HO]; · iexists _; iexact HO
  isplitl [Hx]; · iexact Hx
  isplitl [Hri]; · iexact Hri
  isplitl [He]; · iexact He
  iexact Hout

end Cert.MoE

end
-- ==== Proof.Obligation.lean ====
/-
  The region's proof data, and the body's run as the region asks for it.
-/
module

public import proofs.«01_k».proof.Proof.Body
public import Idealize.ShloMosaic.Lib.Pipeline.Value

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The operands -/

/-- Device `c`'s tokens, -/
def xs (c : Dev nD) : Vec F S2048x512 .bf16 := m ((c : Thread nD τ).loc main_arg0)
/-- its routing, -/
def ris (c : Dev nD) : Vec F S2048x1 .i32 := m ((c : Thread nD τ).loc main_arg2)
/-- its experts' weights, -/
def ws (c : Dev nD) : Vec F S4x512x1024 .bf16 := m ((c : Thread nD τ).loc main_arg3)
/-- and what its body leaves in its result. -/
def outAt (c : Dev nD) : Vec F S512x1024 .f32 := outC (xs m) (ris m) (ws m) c

/-- Each window's one block is its whole array. -/
theorem blk_x (c : Dev nD) : (win0_0.blk (0 : Fin 1)).view.read (Elt F) (m ((c : Thread nD τ).loc main_arg0)) = xs m c := by
  funext j
  refine congrArg (m ((c : Thread nD τ).loc main_arg0)) (funext fun a => Fin.ext ?_)
  show ((win0_0.rect (0 : Fin 1)).emb j a : Nat) = _
  rw [Rect.emb_apply]
  fin_cases a
  · show 0 * 2048 + 1 * (j 0).val = (j 0).val; omega
  · show 0 * 512 + 1 * (j 1).val = (j 1).val; omega
/-- Of the routing; -/
theorem blk_ri (c : Dev nD) : (win0_1.blk (0 : Fin 1)).view.read (Elt F) (m ((c : Thread nD τ).loc main_arg2)) = ris m c := by
  funext j
  refine congrArg (m ((c : Thread nD τ).loc main_arg2)) (funext fun a => Fin.ext ?_)
  show ((win0_1.rect (0 : Fin 1)).emb j a : Nat) = _
  rw [Rect.emb_apply]
  fin_cases a
  · show 0 * 2048 + 1 * (j 0).val = (j 0).val; omega
  · show 0 * 1 + 1 * (j 1).val = (j 1).val; omega
/-- of the weights; -/
theorem blk_w (c : Dev nD) : (win0_2.blk (0 : Fin 1)).view.read (Elt F) (m ((c : Thread nD τ).loc main_arg3)) = ws m c := by
  funext j
  refine congrArg (m ((c : Thread nD τ).loc main_arg3)) (funext fun a => Fin.ext ?_)
  show ((win0_2.rect (0 : Fin 1)).emb j a : Nat) = _
  rw [Rect.emb_apply]
  fin_cases a
  · show 0 * 4 + 1 * (j 0).val = (j 0).val; omega
  · show 0 * 512 + 1 * (j 1).val = (j 1).val; omega
  · show 0 * 1024 + 1 * (j 2).val = (j 2).val; omega
/-- of the result. -/
theorem blk_out (c : Dev nD) (f : Vec F S512x1024 .f32) :
    (win0_3.blk (0 : Fin 1)).view.read (Elt F) (f : Buf (Elt F) ((c : Thread nD τ).loc main_v1)) = f := by
  funext j
  refine congrArg (f) (funext fun a => Fin.ext ?_)
  show ((win0_3.rect (0 : Fin 1)).emb j a : Nat) = _
  rw [Rect.emb_apply]
  fin_cases a
  · show 0 * 512 + 1 * (j 0).val = (j 0).val; omega
  · show 0 * 1024 + 1 * (j 1).val = (j 1).val; omega

/-! ## The region's proof data -/

/-- What the body of device `c` starts from besides its staged operands and scratch, -/
def start (c : Dev nD) : sProp 𝕄 :=
  iprop((∃ K, ghost (xs m) (ris m) (ws m) K c) ∗ credits (F := F) c ∗ levAts L lv)
/-- What a device has before its one grid step. -/
def Φ₀ (c : Dev nD) : sProp 𝕄 := iprop(start m c ∗ scratch (F := F) c)
/-- and what it leaves. -/
def Φ₁ (c : Dev nD) : sProp 𝕄 := iprop(closed (F := F) c ∗ scratch (F := F) c)

/-- One point: the inputs left as staged, the result at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ris m c
    | ⟨2, _⟩ => ws m c
    | ⟨3, _⟩ => outAt m c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- A staging buffer at `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

omit [FloatOps F] in
/-- Owning a window's buffer is owning the whole array. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄) = stg c b Y := by
  unfold owns; simp only [Memref.view_whole, View.read_whole, View.set_whole]

/-- What the windows hold before the step: the tokens, -/
theorem before_x (c : Dev nD) (d) : (dats m ρ 0 c).before (0 : Fin 4) t0_0 d = xs m c := by
  unfold Dat.before; rw [if_pos (fetch0_0 t0_0)]; exact blk_x m c
/-- the routing, -/
theorem before_ri (c : Dev nD) (d) : (dats m ρ 0 c).before (1 : Fin 4) t0_0 d = ris m c := by
  unfold Dat.before; rw [if_pos (fetch0_1 t0_0)]; exact blk_ri m c
/-- the weights. -/
theorem before_w (c : Dev nD) (d) : (dats m ρ 0 c).before (2 : Fin 4) t0_0 d = ws m c := by
  unfold Dat.before; rw [if_pos (fetch0_2 t0_0)]; exact blk_w m c

/-- What the body starts from, -/
def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and what it leaves. -/
def bodyPost (c : Dev nD) : sProp 𝕄 :=
  iprop(Φ₁ (F := F) c ∗ (dats m ρ 0 c).owesAt () t0_0.succ ∗ stg c cc0_stg0_0 (xs m c) ∗ stg c cc0_stg1_0 (ris m c)
    ∗ stg c cc0_stg2_0 (ws m c) ∗ stg c cc0_stg3_0 (outAt m c))

/-- What the region asks of the body, on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _) cc0_scratch6 cc0_scratch7)
    (fun _ => bodyPost m ρ c)
  unfold bodyPre Φ₀ start Dat.owesAt Pipeline.owesWithin
  iintro ⟨⟨⟨⟨%K, Hg⟩, Hc, Hl⟩, Hs⟩, ⟨%Ws, %hW, HO⟩, ⟨%d0, %g0, %h0, H0⟩, ⟨%d1, %g1, %h1, H1⟩, ⟨%d2, %g2, %h2, H2⟩, %d3, %g3, %h3, H3⟩
  rw [before_x] at h0; rw [before_ri] at h1; rw [before_w] at h2
  subst h0; subst h1; subst h2
  rw [show (dats m ρ 0 c).owed t0_0.castSucc = O₀ c from rfl]
  iapply (sound_body (xs m) (ris m) (ws m) K c Ws g3 fun _ => bodyPost m ρ c)
  unfold pre
  isplitr []
  · isplitl [Hg]; · iexact Hg
    isplitl [Hc]; · iexact Hc
    isplitl [Hl]; · iexact Hl
    isplitl [Hs]; · iexact Hs
    isplitl [HO]; · iexact HO
    isplitl [H0]; · iexact H0
    isplitl [H1]; · iexact H1
    isplitl [H2]; · iexact H2
    iexact H3
  unfold post bodyPost Φ₁ Dat.owesAt Pipeline.owesWithin
  rw [show (dats m ρ 0 c).owed t0_0.succ = 0 from rfl]
  iintro ⟨Hz, Hs, ⟨%Ws', HO⟩, H0, H1, H2, H3⟩
  isplitl [Hz Hs]
  · isplitl [Hz]; · iexact Hz
    iexact Hs
  isplitl [HO]
  · iexists Ws'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-! ## The arrays after the region -/

/-- A window's array after the run. -/
def finalA (c : Dev nD) (w : Fin cfg0.W) : Buf (Elt F) ((cfg0.win w).arr.view.loc (c : Thread nD τ)) := (dats m ρ 0 c).arrAt w cfg0.N

/-- The arguments' arrays end as they were; -/
theorem finalA_in (c : Dev nD) :
    finalA m ρ c (0 : Fin 4) = m ((c : Thread nD τ).loc main_arg0) ∧ finalA m ρ c (1 : Fin 4) = m ((c : Thread nD τ).loc main_arg2)
      ∧ finalA m ρ c (2 : Fin 4) = m ((c : Thread nD τ).loc main_arg3) :=
  ⟨(dats m ρ 0 c).arrAt_in (0 : Fin 4) rfl _, (dats m ρ 0 c).arrAt_in (1 : Fin 4) rfl _, (dats m ρ 0 c).arrAt_in (2 : Fin 4) rfl _⟩

/-- the result's array gets the block stored; -/
theorem flushed_out (c : Dev nD) (t : Fin cfg0.N) :
    (dats m ρ 0 c).flushed (3 : Fin 4) t = ((cfg0.win (3 : Fin 4)).blk t).view.read (Elt F) (outAt m c) := by
  obtain rfl := fin_N0 t
  have ha : (dats m ρ 0 c).after (3 : Fin 4) t0_0 = outAt m c := by dsimp only [dats]
  unfold Pipeline.Dat.flushed
  rw [ha]
  exact (blk_out c (outAt m c)).symm

/-- which is all of it. -/
theorem cover_out (i : S512x1024.Idx) : i ∈ ((cfg0.win (3 : Fin 4)).blk t0_0).view.set := by
  show i ∈ ((View.whole main_v1).slice (win0_3.rect (0 : Fin 1))).set
  have e : (win0_3.rect (0 : Fin 1)).emb i = i := by
    refine funext fun a => Fin.ext ?_
    show ((win0_3.rect (0 : Fin 1)).emb i a : Nat) = _
    rw [Rect.emb_apply]
    fin_cases a
    · show 0 * 512 + 1 * (i 0).val = (i 0).val; omega
    · show 0 * 1024 + 1 * (i 1).val = (i 1).val; omega
  have h := ((View.whole main_v1).slice (win0_3.rect (0 : Fin 1))).emb_mem_set i
  rw [show ((View.whole main_v1).slice (win0_3.rect (0 : Fin 1))).emb i = (win0_3.rect (0 : Fin 1)).emb i from rfl] at h
  rwa [e] at h

/-- The result array ends at what the body leaves. -/
theorem finalA_out (c : Dev nD) : finalA m ρ c (3 : Fin 4) = outAt m c :=
  (dats m ρ 0 c).arrAt_eq_of_cover (3 : Fin 4) (outAt m c) (fun t _ => flushed_out m ρ c t) (fun i => ⟨t0_0, flush0_3 _, cover_out i⟩)

end Cert.MoE

end
-- ==== Proof.Dealing.lean ====
/-
  The launch: the cells of the exchange funded and their tokens dealt to the devices that pay with them, and the run of @main.
-/
module

public import proofs.«01_k».proof.Proof.Obligation
public import Idealize.ShloMosaic.Lib.Pipeline.CollectiveSegs

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

/-- The kernel's own semaphores: three for sending, three for receiving. -/
abbrev osem : Fin 6 → SemLoc sig
  | 0 => .dma (sndS 0) | 1 => .dma (sndS 1) | 2 => .dma (sndS 2) | 3 => .dma (rcvS 0) | 4 => .dma (rcvS 1) | 5 => .dma (rcvS 2)

/-- The kernel's own semaphores are no window's. -/
theorem ownSemFacts : Pipeline.OwnSemFacts cfg0.spec osem := by decide

/-- Every window holds its array in full. -/
theorem share_eq (c : Dev nD) (w : Fin cfg0.W) : (dats m ρ 0 c).share w = fullShare := by unfold Dat.share; split <;> rfl

/-- A cell of a device as a semaphore of the mesh; -/
abbrev cellAt (cx : Dev nD × Cell) : GSem nD τ sig := kcell cx.1 cx.2
/-- different cells are different semaphores. -/
theorem cellAt_injective : Function.Injective cellAt := by
  rintro ⟨c, x⟩ ⟨c', x'⟩ h
  have h1 : c = c' := congrArg (fun g : GSem nD τ sig => g.1.1) h
  have h2 : x = x' := csem_injective (congrArg Prod.snd h)
  rw [h1, h2]
/-- All cells of the mesh. -/
def allCells : Finset (GSem nD τ sig) := Finset.univ.map ⟨cellAt, cellAt_injective⟩

/-- A device's own cells' tokens: the `k`-th of its barrier, of its `k`-th send cell, of its `k`-th receive cell. -/
abbrev tokOf (x : (Dev nD × Fin 3) × Fin 3) : GSem nD τ sig × ℕ × Fin 3 := match x.2 with
  | 0 => (kcell x.1.1 .bar, 0, x.1.2) | 1 => (kcell x.1.1 (.snd x.1.2), 0, 0) | 2 => (kcell x.1.1 (.rcv x.1.2), 0, 0)
/-- Different duties have different tokens. -/
theorem tokOf_injective : Function.Injective tokOf := by
  rintro ⟨⟨c, k⟩, a⟩ ⟨⟨c', k'⟩, a'⟩ h
  have h1 : c = c' := by
    have := congrArg (fun x : GSem nD τ sig × ℕ × Fin 3 => x.1.1.1) h
    fin_cases a <;> fin_cases a' <;> exact this
  subst h1
  have h2 : (match a with | 0 => Cell.bar | 1 => .snd k | 2 => .rcv k) = (match a' with | 0 => Cell.bar | 1 => .snd k' | 2 => .rcv k') := by
    have := congrArg (fun x : GSem nD τ sig × ℕ × Fin 3 => x.1.2) h
    fin_cases a <;> fin_cases a' <;> exact csem_injective this
  have h3 := congrArg (fun x : GSem nD τ sig × ℕ × Fin 3 => x.2.2) h
  have : k = k' ∧ a = a' := by
    fin_cases a <;> fin_cases a' <;>
      first | exact ⟨h3, rfl⟩ | exact ⟨Cell.snd.inj h2, rfl⟩ | exact ⟨Cell.rcv.inj h2, rfl⟩ | exact Cell.noConfusion h2
  rw [this.1, this.2]
/-- All tokens of the mesh. -/
def allToks : Finset (GSem nD τ sig × ℕ × Fin 3) := Finset.univ.map ⟨tokOf, tokOf_injective⟩

/-- The ghost state at launch: the pipeline's and the protocol's. -/
def u₀ : UU := (initOf (Pipeline.cells cfgs cellOf_inj) (Pipeline.launchToks cfgs cellOf_inj), initOf allCells allToks)

/-- The tokens of device `c`'s own cells, as minted. -/
def ownToks (ck : Dev nD × Fin 3) : sProp 𝕄 :=
  iprop(dutyTok ER (kcell ck.1 .bar) 0 ck.2 ∗ dutyTok ER (kcell ck.1 (.snd ck.2)) 0 0 ∗ dutyTok ER (kcell ck.1 (.rcv ck.2)) 0 0)

/-- The schedule at the memory of the launch. -/
abbrev SC := sched (xs m) (ris m) (ws m)

/-- What the launch deals device `c`, -/
def G (c : Dev nD) : sProp 𝕄 :=
  iprop((bigSep Finset.univ fun x : Cell => roundState ER (SC m) (kcell c x) 0)
    ∗ (bigSep Finset.univ fun x : Cell => iprop(atPos ER (kcell c x) 0 ∅ 0 ∗ reached ER (kcell c x) 0))
    ∗ bigSep Finset.univ fun k : Fin 3 => ownToks (c, k))
/-- and what all the devices together make of it. -/
def G' (c : Dev nD) : sProp 𝕄 := iprop(∃ K, ghost (xs m) (ris m) (ws m) K c)

omit [FloatOps F] in
/-- Over three indices, written out; -/
theorem bigSep_three (Φ : Fin 3 → sProp 𝕄) : bigSep Finset.univ Φ = iprop(Φ 0 ∗ Φ 1 ∗ Φ 2) := bigSep_univ_eq_bigSepL [0, 1, 2] (by decide) (by decide) Φ
omit [FloatOps F] in
/-- over the cells of a device, written out. -/
theorem bigSep_cell (Φ : Cell → sProp 𝕄) :
    bigSep Finset.univ Φ = iprop(Φ .bar ∗ Φ (.snd 0) ∗ Φ (.snd 1) ∗ Φ (.snd 2) ∗ Φ (.rcv 0) ∗ Φ (.rcv 1) ∗ Φ (.rcv 2)) :=
  bigSep_univ_eq_bigSepL cells (by decide) (by decide) Φ

/-- The ghost state at launch holds the authority of every cell and every token. -/
theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cell => Φ (kcell c x) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Fin 3 => ownToks (F := F) (c, k) := by
    unfold allToks; rw [bigSep_map, bigSep_univ_prod, bigSep_univ_prod]
    exact bigSep_congr fun c _ => bigSep_congr fun k _ => by unfold ownToks; rw [bigSep_three]; rfl
  iintro HX
  imod (Rounds.fund ER (SC m) allCells allToks) $$ HX with ⟨Hst, Hr, Hat, Htok⟩
  imodintro
  ihave Hst' := (Entails.of_eq (hX fun g => roundState ER (SC m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own six counters, -/
theorem ownSems0_eq (c : Dev nD) : (Pipeline.ownSems0 (Ix := Unit) (Name := ℕ) (U := UU) (Lvl := ℕ) (Val := Elt F) (τ := τ) osem c : sProp 𝕄)
    = iprop(semVal (kcell c (.snd 0)) 0 ∗ semVal (kcell c (.snd 1)) 0 ∗ semVal (kcell c (.snd 2)) 0
      ∗ semVal (kcell c (.rcv 0)) 0 ∗ semVal (kcell c (.rcv 1)) 0 ∗ semVal (kcell c (.rcv 2)) 0) := by
  rw [Pipeline.ownSems0_eq_of_list c osem [0, 1, 2, 3, 4, 5] (by decide) (by decide)]; rfl
omit [FloatOps F] in
/-- and the barrier's. -/
theorem unscopedSems0_eq (c : Dev nD) : (unscopedSems0 c : sProp 𝕄) = semVal (kcell c .bar) 0 := by
  unfold unscopedSems0; rw [bigSep_eq_bigSepL_of_eq [SemLoc.reg barS] (by decide) (by decide)]; rfl

omit [FloatOps F] in
/-- A device's semaphores at launch are its cells at zero and the rest. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (kcell c x) 0 : sProp 𝕄) := by
  rw [ownSems0_eq, unscopedSems0_eq, bigSep_cell]
  iintro ⟨HS, HB⟩
  isplitl [HB]; · iexact HB
  iexact HS

/-- A device's cells, opened as invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (SC m) κ (kcell c x)))
          ∗ (bigSep Finset.univ fun x : Cell => iprop(atPos ER (kcell c x) 0 ∅ 0 ∗ reached ER (kcell c x) 0))
          ∗ bigSep Finset.univ fun k : Fin 3 => ownToks (c, k)) := by
  unfold G
  iintro ⟨Hos, Hus, Hst, Hat, Htok⟩
  ihave Hv := (sems0_eq (F := F) c) $$ [Hos Hus]
  · isplitl [Hos] <;> iassumption
  imod (show iprop((bigSep Finset.univ fun x : Cell => semVal (kcell c x) 0) ∗ bigSep Finset.univ fun x : Cell => roundState ER (SC m) (kcell c x) 0)
      ⊢ (|={Set.univ}=> bigSep Finset.univ fun x : Cell => iprop(∃ κ : ℕ, cellInv ER (SC m) κ (kcell c x)) : sProp 𝕄) from by
        rw [← bigSep_sep']
        exact (bigSep_mono fun x _ => (Rounds.body_intro ER (SC m) (kcell c x)).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing -/

/-- Device `c`'s positions and the tokens it pays with. -/
def linear (c : Dev nD) : sProp 𝕄 :=
  iprop((bigSep Finset.univ fun x : Cell => atPos ER (kcell c x) 0 ∅ 0) ∗ bigSep Finset.univ fun k : Fin 3 => tokens (F := F) c k)

/-- The records, the tokens and the facts that a device starts with, from their parts. -/
theorem ghost_intro (K : Dev nD × Cell → ℕ) (c : Dev nD) : iprop(records (xs m) (ris m) (ws m) K ∗ linear c) ⊢ G' m c := by
  unfold linear G' ghost positions
  rw [bigSep_cell, bigSep_three]
  iintro ⟨HR, Hp, Ht⟩
  iexists K
  isplitl [HR]; · iexact HR
  isplitl [Hp]; · iexact Hp
  iexact Ht

/-- A device and a signal, to the device signalled and the same signal. -/
def reachB : Dev nD × Fin 3 ≃ Dev nD × Fin 3 where
  toFun ck := (up ck.1 ck.2, ck.2)
  invFun ck := (dn ck.1 ck.2, ck.2)
  left_inv ck := by dsimp only; rw [dn_up]
  right_inv ck := by dsimp only; rw [up_dn]
/-- A device and a transfer, to the device and the slot it fills. -/
def reachR : Dev nD × Fin 3 ≃ Dev nD × Fin 3 where
  toFun ck := (up ck.1 ck.2, opp ck.2)
  invFun ck := (up ck.1 ck.2, opp ck.2)
  left_inv ck := by dsimp only; rw [up_opp, dn_up, opp_opp]
  right_inv ck := by dsimp only; rw [up_opp, dn_up, opp_opp]

omit [FloatOps F] in
/-- The tokens as minted are the tokens as paid. -/
theorem toks_around :
    (bigSep Finset.univ fun c : Dev nD => bigSep Finset.univ fun k : Fin 3 => (ownToks (c, k) : sProp 𝕄))
      ⊢ bigSep Finset.univ fun c : Dev nD => bigSep Finset.univ fun k : Fin 3 => tokens c k := by
  rw [← bigSep_univ_prod (fun ck : Dev nD × Fin 3 => (ownToks ck : sProp 𝕄)), ← bigSep_univ_prod (fun ck : Dev nD × Fin 3 => (tokens ck.1 ck.2 : sProp 𝕄))]
  unfold ownToks tokens
  rw [bigSep_sep', bigSep_sep', bigSep_sep', bigSep_sep',
    bigSep_univ_equiv reachB (fun ck : Dev nD × Fin 3 => (dutyTok ER (kcell ck.1 .bar) 0 ck.2 : sProp 𝕄)),
    bigSep_univ_equiv reachR (fun ck : Dev nD × Fin 3 => (dutyTok ER (kcell ck.1 (.rcv ck.2)) 0 0 : sProp 𝕄))]
  exact Entails.refl _

omit [FloatOps F] in
/-- A persistent fact may be handed to every index. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What was made per cell, dealt to the devices that use it. -/
theorem regroup :
    (bigSep Finset.univ fun c : Dev nD => iprop((bigSep Finset.univ fun x : Cell => iprop(∃ κ : ℕ, cellInv ER (SC m) κ (kcell c x)))
          ∗ (bigSep Finset.univ fun x : Cell => iprop(atPos ER (kcell c x) 0 ∅ 0 ∗ reached ER (kcell c x) 0))
          ∗ bigSep Finset.univ fun k : Fin 3 => ownToks (c, k)) : sProp 𝕄)
      ⊢ bigSep Finset.univ (G' m) := by
  rw [bigSep_sep', bigSep_sep', ← bigSep_univ_prod (fun cx : Dev nD × Cell => iprop(∃ κ : ℕ, cellInv ER (SC m) κ (kcell cx.1 cx.2))),
    bigSep_congr (s := Finset.univ) (fun (c : Dev nD) _ => bigSep_sep' Finset.univ (fun x : Cell => (atPos ER (kcell c x) 0 ∅ 0 : sProp 𝕄)) (fun x => reached ER (kcell c x) 0)),
    bigSep_sep', ← bigSep_univ_prod (fun cx : Dev nD × Cell => (reached ER (kcell cx.1 cx.2) 0 : sProp 𝕄))]
  iintro ⟨HI, ⟨Hat, #HR⟩, Htok⟩
  ihave HK := (BI.bigSep_exists_pi Finset.univ (fun (cx : Dev nD × Cell) (κ : ℕ) => (cellInv ER (SC m) κ (kcell cx.1 cx.2) : sProp 𝕄))) $$ HI
  icases HK with ⟨%K, #HI⟩
  ihave Htk := (toks_around (F := F)) $$ Htok
  iapply (bigSep_with_persistent (R := records (xs m) (ris m) (ws m) K) fun c _ => ghost_intro m K c)
  isplitr
  · unfold records; isplitl; · iexact HI
    iexact HR
  · iapply (Entails.of_eq (bigSep_sep' Finset.univ (fun c : Dev nD => bigSep Finset.univ fun x : Cell => (atPos ER (kcell c x) 0 ∅ 0 : sProp 𝕄))
      (fun c : Dev nD => bigSep Finset.univ fun k : Fin 3 => tokens (F := F) c k)).symm)
    isplitl [Hat]; · iexact Hat
    iexact Htk

/-- All the devices' semaphores and shares at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.MoE

end
-- ==== Proof.Run.lean ====
/-
  The credit each cell starts with, and the run of @main on the four devices.
-/
module

public import proofs.«01_k».proof.Proof.Dealing

@[expose] public section

set_option maxRecDepth 16384

noncomputable section

namespace Cert.MoE

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The launch credit -/

/-- Cells are equal exactly if device and kind are. -/
theorem kcell_eq_iff {a b : Dev nD} {x y : Cell} : Iff (kcell a x = kcell b y) (a = b ∧ x = y) :=
  ⟨fun h => ⟨congrArg (fun g : GSem nD τ sig => g.1.1) h, csem_injective (congrArg Prod.snd h)⟩, fun h => by rw [h.1, h.2]⟩

/-- What device `d` owes a cell for its `k`-th signal, -/
theorem owB_at (d c : Dev nD) (k : Fin 3) (x : Cell) : owB d k (kcell c x) () = if d = dn c k then (if x = .bar then 1 else 0) else 0 := by
  unfold owB
  rw [tallyAt_apply]
  by_cases h : d = dn c k
  · subst h
    rw [up_dn, if_pos rfl]
    by_cases hx : x = .bar
    · rw [if_pos ⟨by rw [hx], rfl⟩, if_pos hx]
    · rw [if_neg (fun h' => hx (kcell_eq_iff.mp h'.1).2), if_neg hx]
  · rw [if_neg (fun h' => h (by rw [(kcell_eq_iff.mp h'.1).1, dn_up])), if_neg h]
/-- and for its `k`-th transfer. -/
theorem owR_at (d c : Dev nD) (k : Fin 3) (x : Cell) : owR d k (kcell c x) () = if d = dn c k then (if x = .rcv (opp k) then N else 0) else 0 := by
  unfold owR
  rw [tallyAt_apply]
  by_cases h : d = dn c k
  · subst h
    rw [up_dn, if_pos rfl]
    by_cases hx : x = .rcv (opp k)
    · rw [if_pos ⟨by rw [hx], rfl⟩, if_pos hx]
    · rw [if_neg (fun h' => hx (kcell_eq_iff.mp h'.1).2), if_neg hx]
  · rw [if_neg (fun h' => h (by rw [(kcell_eq_iff.mp h'.1).1, dn_up])), if_neg h]

/-- A cell's launch credit, as a sum over the three signals and the three transfers. -/
theorem launch_cell (c : Dev nD) (x : Cell) (n : ℕ)
    (hn : (if x = .rcv (opp 2) then N else 0) + (if x = .rcv (opp 1) then N else 0) + (if x = .rcv (opp 0) then N else 0)
      + (if x = .bar then 1 else 0) + (if x = .bar then 1 else 0) + (if x = .bar then 1 else 0) = n) :
    tallyOn (kcell c x) (launchCredit (Pipeline.owing O₀) 0 (kcell c x)) = (tallyAt (kcell c x) () n : CellTallies nD τ sig Unit) := by
  unfold tallyAt; refine congrArg _ (Finsupp.ext fun u => ?_); cases u
  rw [Pipeline.launchCredit_owing, Finsupp.single_eq_same, ← hn]
  unfold O₀ O₁
  simp only [Pi.add_apply, Finsupp.add_apply, Pi.zero_apply, Finsupp.zero_apply, zero_add, owB_at, owR_at, Finset.sum_add_distrib,
    Finset.sum_ite_eq', Finset.mem_univ, if_true]

/-- The launch's credit is a device's waits' credit. -/
theorem creds (c : Dev nD) : (Pipeline.launchCred O₀ c : sProp 𝕄) ⊢ credits c := by
  have h : (Pipeline.launchCred O₀ c : sProp 𝕄)
      ⊢ bigSep Finset.univ fun x : Cell => cred (tallyOn (kcell c x) (launchCredit (Pipeline.owing O₀) 0 (kcell c x))) := by
    unfold Pipeline.launchCred
    refine (bigSep_subset (Finset.subset_univ (Finset.univ.map ⟨csem, csem_injective⟩))).trans ?_
    rw [bigSep_map]
    exact Entails.refl _
  refine h.trans ?_
  rw [bigSep_cell, launch_cell c .bar 3 (by decide), launch_cell c (.rcv 0) N (by simp [opp]), launch_cell c (.rcv 1) N (by simp [opp]),
    launch_cell c (.rcv 2) N (by simp [opp])]
  unfold credits
  iintro ⟨HB, -, -, -, H⟩
  isplitl [HB]; · iexact HB
  iexact H

/-! ## The region's entry and exit -/

/-- Other threads owe nothing. -/
theorem L_of_ne (g : GSem nD τ sig) (h : g.1.2 ≠ .tc) : L g = ∅ := if_neg h

/-- What no window stages: the router's weights, as launched. -/
def rest (c : Dev nD) : sProp 𝕄 := Pipeline.unscopedRestP Pipeline.Prefetch.none cfg0.spec c (fun b => m ((c : Thread nD τ).loc b))

/-- What the launch deals a device is what it starts from; -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ rest m c) := by
  iintro ⟨HZ, Hlev, Hcr, -, HG⟩
  ihave Hc := (creds (F := F) c) $$ Hcr
  imodintro
  unfold start G' rest
  isplitr [HZ]
  · isplitl [HG]; · iexact HG
    isplitl [Hc]; · iexact Hc
    iexact Hlev
  · iexact HZ

/-- with its scratch, what its step starts from; -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch some_ at_
  iintro ⟨Hs, -, Hr⟩
  isplitl [Hs]; · iexact Hs
  iexact Hr

/-- and what the step leaves is its scratch and its semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ closed scratch some_ at_
  iintro ⟨⟨HB, Hz⟩, Hr⟩
  isplitl [HB]; · iexact HB
  isplitl [Hz]; · iexact Hz
  iexact Hr

/-- The levels permit the pipeline's waits. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- After the run: each device's result at what its body computes, its four arguments as launched. -/
def QC : PUnit × MemSt nD τ sig (Elt F) → Prop := fun r =>
  ∀ c : Dev nD, r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

/-- What is read besides the windows' arrays: the unscoped counters at zero, the router's weights as launched. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)

/-- The router's weights are no window's array; -/
theorem mem_rest : main_arg1 ∈ Pipeline.restRefsP sig Pipeline.Prefetch.none cfg0.spec :=
  Finset.mem_sdiff.mpr ⟨Pipeline.mem_restRefs_of main_arg1 (by decide) (fun w => by fin_cases w <;> exact of_decide_eq_true rfl), fun h => by
    obtain ⟨k, -, -⟩ := Finset.mem_image.mp h
    exact k.elim0⟩

/-- what is read of them and of the counters. -/
theorem read_rest (c : Dev nD) (s' : Phys nD τ sig (Elt F)) :
    iprop(unscopedSems0 c ∗ rest m c ∗ SI s') ⊢ |={Set.univ}=> (iprop(⌜QY m c s'.mem⌝ ∗ SI s') : sProp 𝕄) := by
  iintro ⟨Hu, HZ, HSI⟩
  unfold rest Pipeline.unscopedRestP
  ihave HZ' := (pointsTo_read_all _ (fun b => (c.tc : Thread nD τ).loc b) (fun b => m ((c : Thread nD τ).loc b)) s') $$ [HZ HSI]
  · isplitl [HZ] <;> iassumption
  icases HZ' with ⟨%hZ, HSI⟩
  imod (Pipeline.unscopedSems0_read (X := unscopedSems0 c) (c := c) fupd_intro s') $$ [Hu HSI] with ⟨%hu, HSI⟩
  · isplitl [Hu] <;> iassumption
  imodintro
  isplitr; · ipureintro; exact ⟨hu, hZ main_arg1 (mem_rest)⟩
  iexact HSI

/-- On the four devices, for any float values and from any memory with zero counters: every weakly fair execution of
    @main ends, with every device's result at what its body computes, its arguments as launched and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := rest m)
    (hX := start_intro m ρ) (hin := phi0_intro m ρ) (hout := phi1_exit m ρ)
    (QY := QY m) (hY := read_rest m)
    (hQ := fun s h hs => ⟨fun c => ⟨((h c).1 (3 : Fin 4)).trans (finalA_out m ρ c), ((h c).1 (0 : Fin 4)).trans (finalA_in m ρ c).1, (h c).2.2.2,
      ((h c).1 (1 : Fin 4)).trans (finalA_in m ρ c).2.1, ((h c).1 (2 : Fin 4)).trans (finalA_in m ρ c).2.2⟩, sem_eq_zero hs fun c => (h c).2.2.1⟩)

end Cert.MoE

end
-- ==== Proof.Frames.lean ====
/-
  The frames: both kernels, and the reference, run and leave every argument as launched and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal

@[expose] public section

set_option maxRecDepth 16384

noncomputable section

namespace Cert.MoE

open Idealize.ShloMosaic Idealize.SL.Sem

/-- Of the run, the part a frame states. -/
theorem frame_of_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := F)) _ _).mono (fun _ h => ⟨fun c => (h.1 c).2, h.2⟩) (run_main (F := F) m ρ)

/-- The two programs have one text: their body tables, -/
theorem bodies_same : Cert.Kernel.defs₀ (F := Bits) = Cert.KernelIdeal.defs₀ (F := Bits) := by
  unfold Cert.Kernel.defs₀ Cert.KernelIdeal.defs₀
  congr 1
  funext l x
  match l, x with
  | 0, (t, s) => rfl
/-- and the tables with the pipelines. -/
theorem defs_same : Cert.Kernel.defs (F := Bits) = Cert.KernelIdeal.defs (F := Bits) := by
  unfold Cert.Kernel.defs Cert.KernelIdeal.defs
  exact congrArg (Pipeline.defs Cert.KernelIdeal.pcfgs) bodies_same

/-- The kernel as printed: its text is that of the program read at the ideal values, so that program's run is its run. -/
theorem frame_kernel : Cert.quiescent_Kernel := fun m ρ _ => by
  have h := frame_of_run (F := Bits) m ρ
  rw [← defs_same] at h
  exact h

/-- The kernel at the ideal values, -/
theorem frame_ideal : Cert.quiescent_KernelIdeal := fun m ρ _ =>
  frame_of_run (F := Ideal) m ρ

/-- and under the precondition, which its frame does not use. -/
theorem frame_ideal_fits : Cert.quiescent_KernelIdeal_pre_fits_KernelIdeal := fun m ρ _ => frame_ideal m ρ trivial

/-- The reference's program has no semaphore. -/
theorem no_counter (s : GSem Cert.ReferenceIdeal.nD Cert.ReferenceIdeal.τ Cert.ReferenceIdeal.sig → ℤ) : s = fun _ => 0 :=
  funext fun g => by
    rcases g with ⟨_, sm⟩
    rcases sm with i | i <;> exact i.elim0

/-- The reference at the ideal values, -/
theorem frame_reference : Cert.quiescent_ReferenceIdeal := fun m ρ _ =>
  (θ_run (Cert.ReferenceIdeal.defs (F := Ideal)) _ _).mono (fun r h => ⟨fun c => (h c).2, no_counter r.2.sem⟩) (Cert.ReferenceIdeal.Value.run (F := Ideal) m ρ)

/-- and under the precondition, which its frame does not use. -/
theorem frame_reference_fits : Cert.quiescent_ReferenceIdeal_pre_fits_ReferenceIdeal := fun m ρ _ => frame_reference m ρ trivial

end Cert.MoE

end
-- ==== Proof.Scan.lean ====
/-
  Running counts: a table of 2048 rows added to itself shifted down by 1, 2, 4, …, 1024 rows is the table of running sums.
-/
module

public import proofs.«01_k».proof.Proof.Values
public import Idealize.ShloMosaic.Lib.Pointwise

@[expose] public section

set_option maxRecDepth 16384

noncomputable section

namespace Cert.MoE

open Cert.KernelIdeal Cert.KernelIdeal.Gen
open Idealize.ShloMosaic

/-- The sum of the `s` values of `b` that end at position `t`, or of all up to `t` if there are fewer. -/
def win (b : ℕ → ℕ) (s t : ℕ) : ℕ := ∑ i ∈ Finset.Ico (t + 1 - s) (t + 1), b i

/-- A window of one is its token. -/
theorem win_one (b : ℕ → ℕ) (t : ℕ) : win b 1 t = b t := by
  unfold win
  rw [Nat.add_sub_cancel, Nat.Ico_succ_singleton, Finset.sum_singleton]

/-- A window as long as the table is a running sum. -/
theorem win_all (b : ℕ → ℕ) {s t : ℕ} (h : t < s) : win b s t = ∑ i ∈ Finset.range (t + 1), b i := by
  unfold win
  rw [Nat.sub_eq_zero_of_le h, Finset.range_eq_Ico]

/-- A window and the one before it make one of twice the length. -/
theorem win_double (b : ℕ → ℕ) (s t : ℕ) : win b s t + (if t < s then 0 else win b s (t - s)) = win b (2 * s) t := by
  unfold win
  by_cases h : t < s
  · rw [if_pos h, Nat.add_zero, Nat.sub_eq_zero_of_le h, Nat.sub_eq_zero_of_le (by omega : t + 1 ≤ 2 * s)]
  · rw [if_neg h, show t - s + 1 - s = t + 1 - 2 * s by omega, show t - s + 1 = t + 1 - s by omega, Nat.add_comm,
      Finset.sum_Ico_consecutive _ (by omega) (by omega)]

/-- `f` holds the window sums of length `s` of the columns `b`. -/
def Sums {n : ℕ} (b : Fin n → ℕ → ℕ) (s : ℕ) (f : (⟨2, ![2048, n]⟩ : Shape).Idx → BitVec 32) : Prop :=
  ∀ (t : Fin 2048) (e : Fin n), f (ix2 t e) = BitVec.ofNat 32 (win (b e) s t.val)

/-- One shift-and-add doubles the windows. -/
theorem Sums.step {n k : ℕ} {b : Fin n → ℕ → ℕ} (s : ℕ) {f : IVec ⟨2, ![2048, n]⟩ 32} (hf : Sums b s f)
    (z : IVec ⟨2, ![s, n]⟩ 32) (hz : ∀ i, z i = 0#32) (hk : s + k = 2048)
    (hs : (⟨2, ![2048, n]⟩ : Shape).Slices ![0, 0] ⟨2, ![k, n]⟩)
    (hc : Shape.Concatenates [⟨2, ![s, n]⟩, ⟨2, ![k, n]⟩] ⟨2, ![2048, n]⟩ 0) :
    Sums b (2 * s) (addi f (concatenate ⟨2, ![2048, n]⟩ 0 [⟨⟨2, ![s, n]⟩, z⟩, ⟨⟨2, ![k, n]⟩, extractStridedSlice ⟨2, ![k, n]⟩ ![0, 0] f hs⟩] hc)) := by
  intro t e
  rw [addi_apply, hf t e, concatenate_pair_apply, ← win_double]
  split
  · rename_i hlt
    have h : t.val < s := hlt
    rw [hz, if_pos h]
    simp [IntOp.addi]
  · rename_i hlt
    have h : ¬ t.val < s := hlt
    rw [if_neg h]
    have e1 : extractStridedSlice ⟨2, ![k, n]⟩ ![0, 0] f hs
        (ix2 (⟨t.val - s, by omega⟩ : Fin k) e) = f (ix2 ⟨t.val - s, by omega⟩ e) :=
      (Pointwise.extractStridedSlice_apply _ _ _ _).trans (congrArg f (by
        rw [Shape.Idx.norm_def]
        funext a
        match a with
        | ⟨0, _⟩ => exact Fin.ext (Nat.zero_add _)
        | ⟨1, _⟩ => exact Fin.ext (Nat.zero_add _)))
    have e2 := e1.trans (hf _ e)
    refine Eq.trans (congrArg (IntOp.addi _) (Eq.trans (congrArg _ ?_) e2)) ?_
    · rw [Shape.Idx.norm_def]
      funext a
      match a with
      | ⟨0, _⟩ => rfl
      | ⟨1, _⟩ => rfl
    · rw [IntOp.addi, ← BitVec.ofNat_add]

end Cert.MoE

end
-- ==== Proof.Keep.lean ====
/-
  Which expert keeps which token: the kernel's table `keep`, read at an index.
-/
module

public import proofs.«01_k».proof.Proof.Scan

@[expose] public section

set_option maxRecDepth 16384

noncomputable section

namespace Cert.MoE

open Cert.KernelIdeal Cert.KernelIdeal.Gen
open Idealize.ShloMosaic

variable (ri : Vec Ideal S2048x1 .i32)

/-- The expert token `i` chose. -/
def tok (i : ℕ) : BitVec 32 := if h : i < 2048 then ri (ix2 ⟨i, h⟩ 0) else 0#32
/-- Whether token `i` chose expert `e`, as a number. -/
def hit (e : ℕ) (i : ℕ) : ℕ := if tok ri i = BitVec.ofNat 32 e then 1 else 0
/-- Token `t` is one of the first 102 that chose expert `e`. -/
def Keeps (e : ℕ) (t : ℕ) : Prop := tok ri t = BitVec.ofNat 32 e ∧ ∑ i ∈ Finset.range (t + 1), hit ri e i ≤ 102

instance (e t : ℕ) : Decidable (Keeps ri e t) := inferInstanceAs (Decidable (_ ∧ _))

/-- At a token of the table it is the entry. -/
theorem tok_fin (t : Fin 2048) : tok ri t.val = ri (ix2 t 0) := dif_pos t.isLt

/-- It is at most one. -/
theorem hit_le (e i : ℕ) : hit ri e i ≤ 1 := by unfold hit; split <;> omega

/-- A running count stays below 2048. -/
theorem count_le (e n : ℕ) : ∑ i ∈ Finset.range n, hit ri e i ≤ n :=
  (Finset.sum_le_card_nsmul _ _ 1 fun i _ => hit_le ri e i).trans (by simp)

/-- The one-hot table of the choices. -/
theorem onehot_apply : Sums (fun e : Fin 16 => hit ri e.val) 1 (k0_pay1 ri) := by
  intro t e
  rw [win_one]
  pointwise [k0_pay1]
  rw [hit, tok_fin]
  by_cases h : ri (ix2 t 0) = BitVec.ofNat 32 e.val
  · rw [if_pos h, h]; simp [IntOp.cmpi]
  · rw [if_neg h]; simp [IntOp.cmpi, beq_eq_false_iff_ne.mpr h]

/-- The first six shifts, -/
theorem sums_six : Sums (fun e : Fin 16 => hit ri e.val) 64 (k0_pay2 ri) :=
  ((((((onehot_apply ri).step 1 _ (fun _ => rfl) rfl _ _).step 2 _ (fun _ => rfl) rfl _ _).step 4 _ (fun _ => rfl) rfl _ _).step 8 _ (fun _ => rfl) rfl _ _).step
    16 _ (fun _ => rfl) rfl _ _).step 32 _ (fun _ => rfl) rfl _ _

/-- and the table of running counts. -/
def counts : IVec S2048x16 32 :=
  have v77 : IVec S2048x16 32 := addi (k0_pay2 ri) (concatenate S2048x16 0 [⟨S64x16, k0_pay3⟩, ⟨S1984x16, extractStridedSlice S1984x16 ![0, 0] (k0_pay2 ri) slices_S2048x16_o0_0_S1984x16⟩] concatenates_S64x16_S1984x16_S2048x16_d0)
  have v81 : IVec S2048x16 32 := addi v77 (concatenate S2048x16 0 [⟨S128x16, broadcast S128x16 0#32⟩, ⟨S1920x16, extractStridedSlice S1920x16 ![0, 0] v77 slices_S2048x16_o0_0_S1920x16⟩] concatenates_S128x16_S1920x16_S2048x16_d0)
  have v85 : IVec S2048x16 32 := addi v81 (concatenate S2048x16 0 [⟨S256x16, broadcast S256x16 0#32⟩, ⟨S1792x16, extractStridedSlice S1792x16 ![0, 0] v81 slices_S2048x16_o0_0_S1792x16⟩] concatenates_S256x16_S1792x16_S2048x16_d0)
  have v89 : IVec S2048x16 32 := addi v85 (concatenate S2048x16 0 [⟨S512x16, broadcast S512x16 0#32⟩, ⟨S1536x16, extractStridedSlice S1536x16 ![0, 0] v85 slices_S2048x16_o0_0_S1536x16⟩] concatenates_S512x16_S1536x16_S2048x16_d0)
  addi v89 (concatenate S2048x16 0 [⟨S1024x16, broadcast S1024x16 0#32⟩, ⟨S1024x16, extractStridedSlice S1024x16 ![0, 0] v89 slices_S2048x16_o0_0_S1024x16⟩] concatenates_S1024x16_S1024x16_S2048x16_d0)

/-- They sum the hits up to and with a token; -/
theorem counts_sums : Sums (fun e : Fin 16 => hit ri e.val) 2048 (counts ri) :=
  (((((sums_six ri).step 64 _ (fun _ => rfl) rfl _ _).step 128 _ (fun _ => rfl) rfl _ _).step 256 _ (fun _ => rfl) rfl _ _).step
    512 _ (fun _ => rfl) rfl _ _).step 1024 _ (fun _ => rfl) rfl _ _

/-- as a word. -/
theorem counts_apply (t : Fin 2048) (e : Fin 16) : counts ri (ix2 t e) = BitVec.ofNat 32 (∑ i ∈ Finset.range (t.val + 1), hit ri e.val i) := by
  rw [counts_sums ri t e, win_all _ t.isLt]

/-- `keep` in terms of the table of running counts. -/
theorem keep_counts : keep (F := Ideal) ri = sitofp .bf16 (select (andi (cmpi .sgt (k0_pay1 ri) (broadcast S2048x16 0#32)) (cmpi .sle (counts ri) (broadcast S2048x16 102#32)))
    (broadcast S2048x16 1#32) (broadcast S2048x16 0#32)) := rfl

/-- A small word reads, signed, as the number it was made of. -/
theorem toInt_small {n : ℕ} (h : n < 2 ^ 31) : (BitVec.ofNat 32 n).toInt = n := by
  rw [BitVec.toInt_eq_toNat_of_lt] <;> rw [BitVec.toNat_ofNat, Nat.mod_eq_of_lt (by omega)]
  omega

/-- The words 1 and 0 as extended reals. -/
theorem one_word (φ : FTy) : FloatOps.sitofp (F := Ideal) φ (1#32) = (1 : EReal) := by
  show ((((1#32 : BitVec 32).toInt : ℝ)) : EReal) = 1
  simp
theorem zero_word (φ : FTy) : FloatOps.sitofp (F := Ideal) φ (0#32) = (0 : EReal) := by
  show ((((0#32 : BitVec 32).toInt : ℝ)) : EReal) = 0
  simp

/-- The kernel's table `keep` at an index. -/
theorem keep_apply (t : Fin 2048) (e : Fin 16) : keep (F := Ideal) ri (ix2 t e) = if Keeps ri e.val t.val then (1 : EReal) else 0 := by
  rw [keep_counts]
  have h1 := onehot_apply ri t e
  rw [win_one] at h1
  have h2 := counts_apply ri t e
  have h3 := count_le ri e.val (t.val + 1)
  pointwise
  rw [h1, h2]
  have h4 : t.val < 2048 := t.isLt
  have h5 : IntOp.cmpi .sgt (BitVec.ofNat 32 (hit ri e.val t.val)) 0#32 = BitVec.ofBool (decide (tok ri t.val = BitVec.ofNat 32 e.val)) := by
    unfold hit
    by_cases h : tok ri t.val = BitVec.ofNat 32 e.val
    · rw [if_pos h]; simp [IntOp.cmpi, h]
    · rw [if_neg h]; simp [IntOp.cmpi, h]
  have h6 : IntOp.cmpi .sle (BitVec.ofNat 32 (∑ i ∈ Finset.range (t.val + 1), hit ri e.val i)) 102#32
      = BitVec.ofBool (decide (∑ i ∈ Finset.range (t.val + 1), hit ri e.val i ≤ 102)) := by
    generalize ∑ i ∈ Finset.range (t.val + 1), hit ri e.val i = n at *
    simp only [IntOp.cmpi, BitVec.sle, toInt_small (show n < 2 ^ 31 by omega)]
    rw [show (102#32 : BitVec 32).toInt = 102 from rfl]
    congr 1
    exact decide_eq_decide.mpr (by omega)
  rw [show ((fun e : Fin 16 => hit ri e.val) e t.val) = hit ri e.val t.val from rfl, h5, h6]
  unfold Keeps
  by_cases a : tok ri t.val = BitVec.ofNat 32 e.val <;> by_cases b : ∑ i ∈ Finset.range (t.val + 1), hit ri e.val i ≤ 102 <;>
    simp [a, b, IntOp.andi, Scalar.select, one_word, zero_word]

end Cert.MoE

end
-- ==== Proof.Source.lean ====
/-
  Which device keeps which token, how many earlier tokens it keeps, and which of its experts keeps the token: the
  kernel's tables `ksrc`, `rexc`, `ksrcB` and `klocal`, read at an index.
-/
module

public import proofs.«01_k».proof.Proof.Keep

@[expose] public section

set_option maxRecDepth 16384

noncomputable section

namespace Cert.MoE

open Cert.KernelIdeal Cert.KernelIdeal.Gen
open Idealize.ShloMosaic

variable (ri : Vec Ideal S2048x1 .i32)

/-- One of device `s`'s four experts keeps token `t`. -/
def Sends (s t : ℕ) : Prop := ∃ j : Fin 4, Keeps ri (4 * s + j.val) t

instance (s t : ℕ) : Decidable (Sends ri s t) := inferInstanceAs (Decidable (∃ _, _))

/-- The same as a number. -/
def sent (s t : ℕ) : ℕ := if Sends ri s t then 1 else 0

/-- A token is kept by at most one of the sixteen experts. -/
theorem Keeps.unique {e e' t : ℕ} (he : e < 16) (he' : e' < 16) (h : Keeps ri e t) (h' : Keeps ri e' t) : e = e' := by
  have h1 := congrArg BitVec.toNat (h.1.symm.trans h'.1)
  rw [BitVec.toNat_ofNat, BitVec.toNat_ofNat] at h1
  omega

/-- The kernel's test that expert `x` is on device `s`. -/
theorem group_word (x : Fin 16) (s : Fin 4) :
    IntOp.cmpi .eq (Scalar.select (IntOp.andi (k0_pay6 (ix2 x s)) (IntOp.cmpi .ne (k0_pay7 (ix2 x s)) 0#32))
      (IntOp.subi (k0_pay5 (ix2 x s)) 1#32) (k0_pay5 (ix2 x s))) (BitVec.ofNat 32 s.val) = BitVec.ofBool (decide (x.val / 4 = s.val)) := by
  pointwise [k0_pay5, k0_pay6, k0_pay7]
  revert x s
  decide

/-- The threshold is one half, -/
theorem half_eq : Ideal.ofBits .f32 1056964608#32 = (((1 : ℝ) / 2 : ℝ) : EReal) := by
  simp [Ideal.ofBits, Ideal.ieee]
  rw [← EReal.coe_mul]
  norm_num
/-- above zero -/
theorem half_pos : (0 : EReal) < Ideal.ofBits .f32 1056964608#32 := by
  rw [half_eq]
  exact_mod_cast (by norm_num : (0 : ℝ) < 1 / 2)
/-- and below one. -/
theorem half_lt : Ideal.ofBits .f32 1056964608#32 < (1 : EReal) := by
  rw [half_eq]
  exact_mod_cast (by norm_num : (1 : ℝ) / 2 < 1)

/-- How many of device `s`'s experts keep token `t`: one, or none. -/
theorem sum_group (t : Fin 2048) (s : Fin 4) :
    (∑ x : Fin 16, if x.val / 4 = s.val then keep (F := Ideal) ri (ix2 t x) else 0) = if Sends ri s.val t.val then (1 : EReal) else 0 := by
  by_cases h : Sends ri s.val t.val
  · rw [if_pos h]
    obtain ⟨j, hj⟩ := h
    rw [Finset.sum_eq_single (⟨4 * s.val + j.val, by omega⟩ : Fin 16)]
    · rw [if_pos (by show (4 * s.val + j.val) / 4 = s.val; omega), keep_apply, if_pos hj]
    · intro x _ hx
      by_cases hg : x.val / 4 = s.val
      · rw [if_pos hg, keep_apply, if_neg]
        exact fun hk => hx (Fin.ext (hk.unique ri x.isLt (by omega) hj))
      · rw [if_neg hg]
    · exact fun hn => absurd (Finset.mem_univ _) hn
  · rw [if_neg h]
    refine Finset.sum_eq_zero fun x _ => ?_
    by_cases hg : x.val / 4 = s.val
    · rw [if_pos hg, keep_apply, if_neg]
      exact fun hk => h ⟨⟨x.val % 4, by omega⟩, by rw [← hg, Nat.div_add_mod]; exact hk⟩
    · rw [if_neg hg]

/-- The table `ksrc` at an index. -/
theorem ksrc_apply (t : Fin 2048) (s : Fin 4) : ksrc (F := Ideal) ri (ix2 t s) = BitVec.ofNat 32 (sent ri s.val t.val) := by
  unfold ksrc
  pointwise [k0_pay8]
  simp only [group_word]
  rw [show (∑ x : Fin 16, Scalar.select (BitVec.ofBool (decide (x.val / 4 = s.val))) (keep (F := Ideal) ri (ix2 t x)) (0 : EReal))
      = ∑ x : Fin 16, if x.val / 4 = s.val then keep (F := Ideal) ri (ix2 t x) else 0 from
    Finset.sum_congr rfl fun x _ => by by_cases h : x.val / 4 = s.val <;> simp [h, Scalar.select], sum_group]
  unfold sent
  by_cases h : Sends ri s.val t.val
  · simp [h, half_lt]
  · simp [h, not_lt_of_gt half_pos]

/-- The table `ksrcB` at an index. -/
theorem ksrcB_apply (t : Fin 2048) (s : Fin 4) : ksrcB (F := Ideal) ri (ix2 t s) = if Sends ri s.val t.val then (1 : EReal) else 0 := by
  unfold ksrcB
  pointwise [k0_pay13]
  rw [ksrc_apply, sent]
  split
  · exact one_word _
  · exact zero_word _

/-- The table starts the second prefix sum; -/
theorem ksrc_sums : Sums (fun s : Fin 4 => sent ri s.val) 1 (ksrc (F := Ideal) ri) := fun t s => by
  rw [win_one]; exact ksrc_apply ri t s

/-- The running counts of each device's tokens. -/
def totals : IVec S2048x4 32 :=
  have v165 : IVec S2048x4 32 := k0_pay9 (keep (F := Ideal) ri) k0_pay5 k0_pay6 k0_pay7
  have v169 : IVec S2048x4 32 := addi v165 (concatenate S2048x4 0 [⟨S128x4, k0_pay10⟩, ⟨S1920x4, extractStridedSlice S1920x4 ![0, 0] v165 slices_S2048x4_o0_0_S1920x4⟩] concatenates_S128x4_S1920x4_S2048x4_d0)
  have v173 : IVec S2048x4 32 := addi v169 (concatenate S2048x4 0 [⟨S256x4, broadcast S256x4 0#32⟩, ⟨S1792x4, extractStridedSlice S1792x4 ![0, 0] v169 slices_S2048x4_o0_0_S1792x4⟩] concatenates_S256x4_S1792x4_S2048x4_d0)
  have v177 : IVec S2048x4 32 := addi v173 (concatenate S2048x4 0 [⟨S512x4, broadcast S512x4 0#32⟩, ⟨S1536x4, extractStridedSlice S1536x4 ![0, 0] v173 slices_S2048x4_o0_0_S1536x4⟩] concatenates_S512x4_S1536x4_S2048x4_d0)
  addi v177 (concatenate S2048x4 0 [⟨S1024x4, broadcast S1024x4 0#32⟩, ⟨S1024x4, extractStridedSlice S1024x4 ![0, 0] v177 slices_S2048x4_o0_0_S1024x4⟩] concatenates_S1024x4_S1024x4_S2048x4_d0)

/-- after seven shifts -/
theorem sums_seven : Sums (fun s : Fin 4 => sent ri s.val) 128 (k0_pay9 (keep (F := Ideal) ri) k0_pay5 k0_pay6 k0_pay7) :=
  (((((((ksrc_sums ri).step 1 _ (fun _ => rfl) rfl _ _).step 2 _ (fun _ => rfl) rfl _ _).step 4 _ (fun _ => rfl) rfl _ _).step 8 _ (fun _ => rfl) rfl _ _).step
    16 _ (fun _ => rfl) rfl _ _).step 32 _ (fun _ => rfl) rfl _ _).step 64 _ (fun _ => rfl) rfl _ _

/-- and after all. -/
theorem totals_sums : Sums (fun s : Fin 4 => sent ri s.val) 2048 (totals ri) :=
  ((((sums_seven ri).step 128 _ (fun _ => rfl) rfl _ _).step 256 _ (fun _ => rfl) rfl _ _).step
    512 _ (fun _ => rfl) rfl _ _).step 1024 _ (fun _ => rfl) rfl _ _

/-- The exclusive counts are the inclusive less the token itself. -/
theorem rexc_totals : rexc (F := Ideal) ri = shapeCast S2048x4 (subi (totals ri) (ksrc (F := Ideal) ri)) shapeCasts_S2048x4_S2048x4 := rfl

/-- The table `rexc` at an index: how many tokens before `t` device `s` keeps. -/
theorem rexc_apply (t : Fin 2048) (s : Fin 4) : rexc (F := Ideal) ri (ix2 t s) = BitVec.ofNat 32 (∑ i ∈ Finset.range t.val, sent ri s.val i) := by
  rw [rexc_totals]
  pointwise
  rw [totals_sums ri t s, ksrc_apply, win_all _ t.isLt, Finset.sum_range_succ]
  simp only [IntOp.subi]
  rw [BitVec.ofNat_add, BitVec.add_sub_cancel]

/-! ## The experts of one device -/

/-- A device's word is its number. -/
theorem word_eq (c : Dev nD) : word c = BitVec.ofNat 32 c.val := by revert c; decide

/-- A sum over the experts that picks one. -/
theorem sum_pick (f : Fin 16 → EReal) (k : Fin 16) : (∑ x : Fin 16, Scalar.select (IntOp.cmpi .eq (BitVec.ofNat 32 x.val) (BitVec.ofNat 32 k.val)) (f x) 0) = f k := by
  rw [Finset.sum_eq_single k]
  · simp [IntOp.cmpi, Scalar.select]
  · intro x _ hx
    have : ¬ BitVec.ofNat 32 x.val = BitVec.ofNat 32 k.val := fun h => hx (Fin.ext (by
      have h1 := congrArg BitVec.toNat h
      rw [BitVec.toNat_ofNat, BitVec.toNat_ofNat] at h1
      omega))
    simp [IntOp.cmpi, Scalar.select, beq_eq_false_iff_ne.mpr this]
  · exact fun hn => absurd (Finset.mem_univ _) hn

/-- The number of a device's expert, as the kernel computes it. -/
theorem expert_word (c : Dev nD) (k : Fin 4) (w : BitVec 32) (hw : w = BitVec.ofNat 32 k.val) :
    Scalar.addi (Scalar.muli (word c) 4#32) w
      = BitVec.ofNat 32 (⟨4 * c.val + k.val, by have hc : c.val < 4 := c.isLt; omega⟩ : Fin 16).val := by
  subst hw; revert c k; decide

/-- The table `klocal` at an index. -/
theorem klocal_apply (c : Dev nD) (t : Fin 2048) (j : Fin 4) :
    klocal (F := Ideal) ri c (ix2 t j) = if Keeps ri (4 * c.val + j.val) t.val then (1 : EReal) else 0 := by
  have hc : c.val < 4 := c.isLt
  have key : klocal (F := Ideal) ri c (ix2 t j) = keep (F := Ideal) ri (ix2 t ⟨4 * c.val + j.val, by omega⟩) := by
    fin_vals j with hj
    · obtain rfl : j = 0 := Fin.ext hj
      rw [show klocal (F := Ideal) ri c (ix2 t 0) = k0_pay14 (word c) i16 (keep (F := Ideal) ri) (ix2 t 0) from rfl]
      pointwise [k0_pay14]
      rw [expert_word c 0 0#32 rfl]
      exact sum_pick (fun x => keep (F := Ideal) ri (ix2 t x)) _
    · obtain rfl : j = 1 := Fin.ext hj
      rw [show klocal (F := Ideal) ri c (ix2 t 1) = k0_pay15 i16 (keep (F := Ideal) ri) (Scalar.addi (Scalar.muli (word c) 4#32) 1#32) (ix2 t 0) from rfl]
      pointwise [k0_pay15]
      rw [expert_word c 1 1#32 rfl]
      exact sum_pick (fun x => keep (F := Ideal) ri (ix2 t x)) _
    · obtain rfl : j = 2 := Fin.ext hj
      rw [show klocal (F := Ideal) ri c (ix2 t 2) = k0_pay16 (word c) i16 (keep (F := Ideal) ri) (ix2 t 0) from rfl]
      pointwise [k0_pay16]
      rw [expert_word c 2 2#32 rfl]
      exact sum_pick (fun x => keep (F := Ideal) ri (ix2 t x)) _
    · obtain rfl : j = 3 := Fin.ext hj
      rw [show klocal (F := Ideal) ri c (ix2 t 3) = k0_pay18 (k0_pay17 (word c) i16 (keep (F := Ideal) ri)) (ix2 t 0) from rfl]
      pointwise [k0_pay17, k0_pay18]
      rw [expert_word c 3 3#32 rfl]
      exact sum_pick (fun x => keep (F := Ideal) ri (ix2 t x)) _
  rw [key, keep_apply]

end Cert.MoE

end
-- ==== Proof.Table.lean ====
/-
  The one-hot tables: which compact row of a chunk each kept token of the chunk takes.
-/
module

public import proofs.«01_k».proof.Proof.Source

@[expose] public section

set_option maxRecDepth 16384

noncomputable section

namespace Cert.MoE

open Cert.KernelIdeal Cert.KernelIdeal.Gen
open Idealize.ShloMosaic

variable (ri : Vec Ideal S2048x1 .i32)

/-- How many tokens of chunk `d` before its `t`-th device `s` keeps. -/
def place (s d t : ℕ) : ℕ := ∑ i ∈ Finset.Ico (512 * d) (512 * d + t), sent ri s i

/-- Token `t` of chunk `d` is kept by device `s` and takes compact row `r`. -/
def Takes (s d t r : ℕ) : Prop := Sends ri s (512 * d + t) ∧ place ri s d t = r

instance (s d t r : ℕ) : Decidable (Takes ri s d t r) := inferInstanceAs (Decidable (_ ∧ _))

/-- It is at most one, -/
theorem sent_le (s i : ℕ) : sent ri s i ≤ 1 := by unfold sent; split <;> omega

/-- so a place is at most the number of tokens before; -/
theorem place_le (s d t : ℕ) : place ri s d t ≤ t := by
  refine (Finset.sum_le_card_nsmul _ _ 1 fun i _ => sent_le ri s i).trans ?_
  simp

/-- Past a kept token the count has grown. -/
theorem place_lt {s d t t' : ℕ} (h : Sends ri s (512 * d + t)) (ht : t < t') : place ri s d t < place ri s d t' := by
  have h1 : place ri s d t + ∑ i ∈ Finset.Ico (512 * d + t) (512 * d + t'), sent ri s i = place ri s d t' :=
    Finset.sum_Ico_consecutive _ (by omega) (by omega)
  have h2 : sent ri s (512 * d + t) ≤ ∑ i ∈ Finset.Ico (512 * d + t) (512 * d + t'), sent ri s i :=
    Finset.single_le_sum (f := sent ri s) (fun i _ => Nat.zero_le _) (Finset.mem_Ico.mpr ⟨le_refl _, by omega⟩)
  have h3 : sent ri s (512 * d + t) = 1 := if_pos h
  omega

/-- No two tokens take one row. -/
theorem Takes.unique {s d t t' r : ℕ} (h : Takes ri s d t r) (h' : Takes ri s d t' r) : t = t' := by
  rcases Nat.lt_trichotomy t t' with hl | hl | hl
  · exact absurd (h.2.trans h'.2.symm) (Nat.ne_of_lt (place_lt ri h.1 hl))
  · exact hl
  · exact absurd (h'.2.trans h.2.symm) (Nat.ne_of_lt (place_lt ri h'.1 hl))

/-- A sum of four words of which the selection keeps one. -/
theorem fold_pick (g : Fin 4 → BitVec 32) (s : Fin 4) :
    Finset.univ.fold IntOp.addi 0#32 (fun x : Fin 4 => IntOp.muli (g x) (if x = s then 1#32 else 0#32)) = g s := by
  have h : ∀ f : Fin 4 → BitVec 32, Finset.univ.fold IntOp.addi 0#32 f = IntOp.addi (f 0) (IntOp.addi (f 1) (IntOp.addi (f 2) (IntOp.addi (f 3) 0#32))) :=
    fun f => rfl
  rw [h]
  fin_cases s <;> simp [IntOp.addi, IntOp.muli]

/-- A device's selection words. -/
theorem sel_apply (s x : Fin 4) : k0_pay23 (word s) i4 (ix2 0 x) = if x = s then 1#32 else 0#32 := by
  pointwise [k0_pay23]
  revert s x
  decide
/-- and as floats. -/
theorem selF_apply (s x : Fin 4) : k0_pay24 (F := Ideal) (word s) i4 (ix2 0 x) = if x = s then (1 : EReal) else 0 := by
  pointwise [k0_pay24]
  rw [sel_apply]
  split
  · exact one_word _
  · exact zero_word _

/-- The table of the rows of chunk `d` that device `s` keeps. -/
def table (s d : Fin 4) : FVec Ideal S512x192 .bf16 := slots (F := Ideal) (fun _ => ri) s d

/-- The table at an index. -/
theorem table_apply (s d : Fin 4) (t : Fin 512) (r : Fin 192) :
    table ri s d (ix2 t r) = if Takes ri s.val d.val t.val r.val then (1 : EReal) else 0 := by
  have hb : 512 * d.val + t.val < 2048 := by omega
  have hA : ∀ x : Fin 4, chunk d (rexc (F := Ideal) ri) (ix2 t x) = BitVec.ofNat 32 (∑ i ∈ Finset.range (512 * d.val + t.val), sent ri x.val i) :=
    fun x => rexc_apply ri ⟨512 * d.val + t.val, hb⟩ x
  have hB : ∀ x : Fin 4, head d (rexc (F := Ideal) ri) (ix2 0 x) = BitVec.ofNat 32 (∑ i ∈ Finset.range (512 * d.val), sent ri x.val i) :=
    fun x => rexc_apply ri ⟨512 * d.val, by omega⟩ x
  have hC : ∀ x : Fin 4, chunk d (ksrcB (F := Ideal) ri) (ix2 t x) = if Sends ri x.val (512 * d.val + t.val) then (1 : EReal) else 0 :=
    fun x => ksrcB_apply ri ⟨512 * d.val + t.val, hb⟩ x
  have hD : ∀ x : Fin 4, IntOp.subi (BitVec.ofNat 32 (∑ i ∈ Finset.range (512 * d.val + t.val), sent ri x.val i))
      (BitVec.ofNat 32 (∑ i ∈ Finset.range (512 * d.val), sent ri x.val i)) = BitVec.ofNat 32 (place ri x.val d.val t.val) := fun x => by
    rw [Finset.range_eq_Ico, ← Finset.sum_Ico_consecutive _ (Nat.zero_le _) (Nat.le_add_right (512 * d.val) t.val), Nat.add_comm,
      BitVec.ofNat_add, IntOp.subi, Finset.range_eq_Ico, BitVec.add_sub_cancel]
    rfl
  unfold table slots
  pointwise [k0_pay29]
  simp only [hA, hB, hC, hD, sel_apply, selF_apply, fold_pick]
  have hp := place_le ri s.val d.val t.val
  have hw : IntOp.cmpi .eq (BitVec.ofNat 32 (place ri s.val d.val t.val)) (BitVec.ofNat 32 r.val) = BitVec.ofBool (decide (place ri s.val d.val t.val = r.val)) := by
    unfold IntOp.cmpi
    refine congrArg BitVec.ofBool ?_
    rw [Bool.eq_iff_iff, beq_iff_eq, decide_eq_true_iff]
    refine ⟨fun h => ?_, fun h => by rw [h]⟩
    have h1 := congrArg BitVec.toNat h
    rw [BitVec.toNat_ofNat, BitVec.toNat_ofNat] at h1
    omega
  rw [hw]
  simp only [mul_ite, mul_one, mul_zero, Finset.sum_ite_eq', Finset.mem_univ, if_true]
  unfold Takes
  by_cases a : Sends ri s.val (512 * d.val + t.val) <;> by_cases b : place ri s.val d.val t.val = r.val <;> simp [a, b, Scalar.select]

end Cert.MoE

end
-- ==== Proof.Part.lean ====
/-
  A device's compact partial product, read at a row some token takes.
-/
module

public import proofs.«01_k».proof.Proof.Table

@[expose] public section

set_option maxRecDepth 16384

noncomputable section

namespace Cert.MoE

open Cert.KernelIdeal Cert.KernelIdeal.Gen
open Idealize.ShloMosaic

variable (x : Vec Ideal S2048x512 .bf16) (ri : Vec Ideal S2048x1 .i32) (W : Dev nD → Vec Ideal S4x512x1024 .bf16)

/-- A position in a block is a position. -/
theorem pair_lt {m n N : ℕ} (hN : m * n = N) (j : Fin m) (d : Fin n) : n * j.val + d.val < N := by
  have h : d.val + n * j.val < m * n := (finProdFinEquiv (j, d)).isLt
  omega

/-- A sum over all positions is one over the blocks and the positions in a block. -/
theorem sum_pairs {m n N : ℕ} (hN : m * n = N) (f : Fin N → EReal) :
    ∑ k, f k = ∑ j : Fin m, ∑ d : Fin n, f ⟨n * j.val + d.val, pair_lt hN j d⟩ := by
  subst hN
  rw [← (finProdFinEquiv (m := m) (n := n)).sum_comp f, Fintype.sum_prod_type]
  refine Finset.sum_congr rfl fun j _ => Finset.sum_congr rfl fun d _ => congrArg f (Fin.ext ?_)
  exact Nat.add_comm d.val (n * j.val)

/-- A compact row is the row of the token that takes it. -/
theorem gather_row {s d : Fin 4} {t : Fin 512} {r : Fin 192} (h : Takes ri s.val d.val t.val r.val) (f : Fin 512 → EReal) :
    ∑ k : Fin 512, table ri s d (ix2 k r) * f k = f t := by
  rw [Finset.sum_eq_single t]
  · rw [table_apply, if_pos h, one_mul]
  · intro k _ hk
    rw [table_apply, if_neg, zero_mul]
    exact fun hk' => hk (Fin.ext (hk'.unique ri h))
  · exact fun hn => absurd (Finset.mem_univ _) hn

/-- A device's weights stacked: row `512 j + i` is row `i` of its expert `j`. -/
theorem wcat_apply (w : Vec Ideal S4x512x1024 .bf16) (j : Fin 4) (i : Fin 512) (h : Fin 1024) :
    wcat (F := Ideal) w (ix2 ⟨512 * j.val + i.val, by omega⟩ h) = w (ix3 j i h) := by
  have e1 : (512 * j.val + i.val) / 512 = j.val := by omega
  have e2 : (512 * j.val + i.val) % 512 = i.val := by omega
  show k0_pay19 (expert (F := Ideal) w ⟨(512 * j.val + i.val) / 512, _⟩) (ix2 (⟨(512 * j.val + i.val) % 512, _⟩ : Fin 512) h) = _
  simp only [e1, e2]
  pointwise [k0_pay19]
  rfl

/-- What device `s`'s experts make of token `t`. -/
def made (w : Vec Ideal S4x512x1024 .bf16) (s t : ℕ) (ht : t < 2048) (h : Fin 1024) : EReal :=
  ∑ j : Fin 4, if Keeps ri (4 * s + j.val) t then ∑ i : Fin 512, x (ix2 ⟨t, ht⟩ i) * w (ix3 j i h) else 0

/-- A sum under a condition is the sum of its terms under it. -/
theorem ite_sum {n : ℕ} (p : Prop) [Decidable p] (f : Fin n → EReal) : (if p then ∑ i, f i else 0) = ∑ i, if p then f i else 0 := by
  split_ifs <;> simp

/-- The compact partial product at a row that token `t` of the chunk takes. -/
theorem part_apply (s d : Fin 4) (t : Fin 512) (r : Fin 192) (h : Fin 1024) (ht : Takes ri s.val d.val t.val r.val) :
    part (F := Ideal) (fun _ => x) (fun _ => ri) W s d (ix3 0 r h) = made x ri (W s) s.val (512 * d.val + t.val) (by omega) h := by
  unfold part
  rw [show slots (F := Ideal) (fun _ => ri) s d = table ri s d from rfl]
  pointwise [k0_pay31, k0_pay30]
  simp only [gather_row ri ht]
  rw [sum_pairs (m := 4) (n := 512) rfl]
  unfold made
  refine Finset.sum_congr rfl fun j _ => ?_
  have hx : ∀ i : Fin 512, chunk d x (ix2 t i) = x (ix2 ⟨512 * d.val + t.val, by omega⟩ i) := fun i => rfl
  have hk : ∀ j : Fin 4, chunk d (klocal (F := Ideal) ri s) (ix2 t j) = if Keeps ri (4 * s.val + j.val) (512 * d.val + t.val) then (1 : EReal) else 0 :=
    fun j => klocal_apply ri s ⟨512 * d.val + t.val, by omega⟩ j
  simp only [hx, hk, wcat_apply]
  rw [ite_sum]
  refine Finset.sum_congr rfl fun i _ => ?_
  have hi := i.isLt
  have at_i : ∀ (n : ℕ) (hn : n < 512), n = i.val → (⟨n, hn⟩ : Fin 512) = i := fun n hn e => Fin.ext e
  fin_vals j with hj
  all_goals
    split_ifs <;> first
      | omega
      | rw [at_i, hj]
        · simp
        · omega

end Cert.MoE

end
-- ==== Proof.Out.lean ====
/-
  What the block a device stores holds, as a sum over the four devices that send to it.
-/
module

public import proofs.«01_k».proof.Proof.Part

@[expose] public section

set_option maxRecDepth 16384

noncomputable section

namespace Cert.MoE

open Cert.KernelIdeal Cert.KernelIdeal.Gen
open Idealize.ShloMosaic

/-- What a token's rows of a compact product add to the output block. -/
def give (T : FVec Ideal S512x192 .bf16) (P : FVec Ideal S1x192x1024 .bf16) : FVec Ideal S512x1024 .f32 :=
  matmul dot_S512x192_S192x1024_S512x1024_1_0_0_1_n_n none T (shapeCast S192x1024 P shapeCasts_S1x192x1024_S192x1024)
    (constant S512x1024 .f32 0x00000000#32)

/-- It is the sum over the compact rows. -/
theorem give_apply (T : FVec Ideal S512x192 .bf16) (P : FVec Ideal S1x192x1024 .bf16) (t : Fin 512) (h : Fin 1024) :
    give T P (ix2 t h) = ∑ r : Fin 192, T (ix2 t r) * P (ix3 0 r h) := by
  pointwise [give]

/-- The device `k + 1` below, as the kernel's words name it. -/
def below (w k : BitVec 32) : BitVec 32 :=
  let r := Scalar.remsi (Scalar.subi w k) 4#32
  Scalar.select (Scalar.andi (Scalar.xori (Scalar.cmpi .slt r 0#32) (Scalar.cmpi .slt 4#32 0#32)) (Scalar.cmpi .ne r 0#32)) (Scalar.addi r 4#32) r

/-- Those words are the three devices below. -/
theorem below_word (c : Dev nD) : below (word c) 1#32 = word (dn c 0) ∧ below (word c) 2#32 = word (dn c 1) ∧ below (word c) 3#32 = word (dn c 2) := by
  revert c
  decide

/-- The table the kernel builds for the device that word `w` names. -/
def tableOf (w : BitVec 32) (A : Vec Ideal S512x4 .i32) (B : Vec Ideal S1x4 .i32) (C : Vec Ideal S512x4 .bf16) : FVec Ideal S512x192 .bf16 :=
  k0_pay29 i192 (k0_pay23 w i4) (k0_pay24 w i4) A B C

/-- The three tables as printed, each one function of the sender's word. -/
theorem table_three (w : BitVec 32) (A : Vec Ideal S512x4 .i32) (B : Vec Ideal S1x4 .i32) (C : Vec Ideal S512x4 .bf16) :
    k0_pay38 w i4 i192 A B C = tableOf (below w 1#32) A B C := rfl

/-- Adding the product received from the device three above. -/
theorem add_three (acc : FVec Ideal S512x1024 .f32) (T : FVec Ideal S512x192 .bf16) (P : FVec Ideal S1x192x1024 .bf16) :
    k0_pay39 acc T P = addf acc (give T P) := rfl

/-- Adding the product received from the device two above. -/
theorem add_two (w : BitVec 32) (A : Vec Ideal S512x4 .i32) (B : Vec Ideal S1x4 .i32) (C : Vec Ideal S512x4 .bf16)
    (acc : FVec Ideal S512x1024 .f32) (P : FVec Ideal S1x192x1024 .bf16) :
    k0_pay43 i192 acc (k0_pay41 (F := Ideal) w i4 A B) (k0_pay42 w i4 C) P = addf acc (give (tableOf (below w 2#32) A B C) P) := rfl

/-- Adding the product received from the device one above. -/
theorem add_one (w : BitVec 32) (A : Vec Ideal S512x4 .i32) (B : Vec Ideal S1x4 .i32) (C : Vec Ideal S512x4 .bf16)
    (acc : FVec Ideal S512x1024 .f32) (P : FVec Ideal S1x192x1024 .bf16) :
    k0_pay45 i192 A B C acc (k0_pay44 w i4) 1#32 0#32 P = addf acc (give (tableOf (below w 3#32) A B C) P) := rfl

/-- The device's own product, which stays in registers, is added as if it had been received. -/
theorem own_one (w : BitVec 32) (A : Vec Ideal S512x4 .i32) (B : Vec Ideal S1x4 .i32) (C : Vec Ideal S512x4 .bf16)
    (v : Vec Ideal S2048x1024 .bf16) (X : Vec Ideal S512x512 .bf16) (K : Vec Ideal S512x4 .bf16) :
    k0_pay37 v i192 (k0_pay24 w i4) (k0_pay36 (F := Ideal) (k0_pay23 w i4) A B) C X K
      = give (tableOf w A B C) (k0_pay31 v (tableOf w A B C) (k0_pay30 X) K) := by
  simp only [give, k0_pay31, shapeCast_shapeCast]
  rfl

variable (x : Vec Ideal S2048x512 .bf16) (ri : Vec Ideal S2048x1 .i32) (W : Dev nD → Vec Ideal S4x512x1024 .bf16)

/-- The block a device stores is the sum of what the four devices give it. -/
theorem outC_eq (c : Dev nD) : outC (F := Ideal) (fun _ => x) (fun _ => ri) W c =
    addf (addf (addf (give (table ri c c) (part (F := Ideal) (fun _ => x) (fun _ => ri) W c c))
      (give (table ri (dn c 0) c) (part (F := Ideal) (fun _ => x) (fun _ => ri) W (dn c 0) c)))
      (give (table ri (dn c 1) c) (part (F := Ideal) (fun _ => x) (fun _ => ri) W (dn c 1) c)))
      (give (table ri (dn c 2) c) (part (F := Ideal) (fun _ => x) (fun _ => ri) W (dn c 2) c)) := by
  have h0 : up c 2 = dn c 0 := up_opp c 0
  have h1 : up c 1 = dn c 1 := up_opp c 1
  have h2 : up c 0 = dn c 2 := up_opp c 2
  unfold outC ownC
  rw [own_one, add_one, add_two, add_three, table_three, h0, h1, h2, (below_word c).1, (below_word c).2.1, (below_word c).2.2]
  rfl

/-- Four devices: the receiver and the three below it. -/
theorem sum_devices (c : Dev nD) (f : Dev nD → EReal) : f c + f (dn c 0) + f (dn c 1) + f (dn c 2) = ∑ s, f s := by
  have hs : ∑ s, f s = f 0 + f 1 + f 2 + f 3 := Fin.sum_univ_four f
  rw [hs]
  have h : c = 0 ∨ c = 1 ∨ c = 2 ∨ c = 3 := by revert c; decide
  rcases h with rfl | rfl | rfl | rfl
  · show f 0 + f 3 + f 2 + f 1 = _; abel
  · show f 1 + f 0 + f 3 + f 2 = _; abel
  · show f 2 + f 1 + f 0 + f 3 = _; abel
  · show f 3 + f 2 + f 1 + f 0 = _; abel

/-- A row of a device's chunk is a token. -/
theorem row_lt (c : Dev nD) (t : Fin 512) : 512 * c.val + t.val < 2048 := by
  have hc : c.val < 4 := c.isLt
  omega

/-- What device `s` gives a token of chunk `c`: what its experts make of it, if the chunk's kept tokens fit in its compact rows. -/
theorem given (s c : Dev nD) (t : Fin 512) (h : Fin 1024) (fits : ∑ i ∈ Finset.Ico (512 * c.val) (512 * c.val + 512), sent ri s.val i ≤ 192) :
    give (table ri s c) (part (F := Ideal) (fun _ => x) (fun _ => ri) W s c) (ix2 t h) = made x ri (W s) s.val (512 * c.val + t.val) (row_lt c t) h := by
  rw [give_apply]
  by_cases hs : Sends ri s.val (512 * c.val + t.val)
  · have hr : place ri s.val c.val t.val < 192 := by
      have h1 := place_lt ri hs t.isLt
      have h2 : place ri s.val c.val 512 ≤ 192 := fits
      omega
    have ht : Takes ri s.val c.val t.val (⟨_, hr⟩ : Fin 192).val := ⟨hs, rfl⟩
    rw [Finset.sum_eq_single (⟨_, hr⟩ : Fin 192), table_apply, if_pos ht, one_mul]
    · have hp := part_apply x ri W s c t _ h ht
      exact hp
    · intro r _ hne
      rw [table_apply, if_neg, zero_mul]
      exact fun hr' => hne (Fin.ext hr'.2.symm)
    · exact fun hn => absurd (Finset.mem_univ _) hn
  · rw [made, Finset.sum_eq_zero, Finset.sum_eq_zero]
    · exact fun j _ => if_neg fun hj => hs ⟨j, hj⟩
    · intro r _
      rw [table_apply, if_neg fun hr => hs hr.1, zero_mul]

/-- The block device `c` stores, at an index. -/
theorem outC_apply (c : Dev nD) (t : Fin 512) (h : Fin 1024)
    (fits : ∀ s : Dev nD, ∑ i ∈ Finset.Ico (512 * c.val) (512 * c.val + 512), sent ri s.val i ≤ 192) :
    outC (F := Ideal) (fun _ => x) (fun _ => ri) W c (ix2 t h) = ∑ s : Dev nD, made x ri (W s) s.val (512 * c.val + t.val) (row_lt c t) h := by
  rw [outC_eq, ← sum_devices c]
  show give _ _ (ix2 t h) + give _ _ (ix2 t h) + give _ _ (ix2 t h) + give _ _ (ix2 t h) = _
  rw [given x ri W _ c t h (fits _), given x ri W _ c t h (fits _), given x ri W _ c t h (fits _), given x ri W _ c t h (fits _)]

end Cert.MoE

end
-- ==== Proof.Reference.lean ====
/-
  The reference's count of earlier tokens, at a token.
-/
module

public import proofs.«01_k».proof.Proof.Source
public import proofs.«01_k».proof.ReferenceIdeal
public import proofs.«01_k».proof.Proof.Gen.ReferenceIdeal
public import Idealize.ShloMosaic.Lib.IndicatorCount

@[expose] public section

set_option maxRecDepth 16384

noncomputable section

namespace Cert.MoE

open Cert.ReferenceIdeal Cert.ReferenceIdeal.Gen
open Idealize.ShloMosaic

/-- Which tokens' own expert had a place left: fewer than 102 earlier tokens name it. -/
def keptCol (ri : IVec S2048x1 32) : IVec S2048x1 1 :=
  cmpi .slt (broadcastInDim S2048x1 ![0] bcast_S2048_S2048x1_0 (Host.reduce IntOp.addi (extui 32 (andi
      (cmpi .eq (broadcastInDim S2048x2048 ![0, 1] bcast_S2048x1_S2048x2048_0_1 ri)
        (broadcastInDim S2048x2048 ![0, 1] bcast_S1x2048_S2048x2048_0_1 (shapeCast _ ri shapeCasts_S2048x1_S1x2048)))
      (cmpi .slt (broadcastInDim S2048x2048 ![0, 1] bcast_S1x2048_S2048x2048_0_1 (broadcastInDim S1x2048 ![1] bcast_S2048_S1x2048_1 (iotaInDim S2048 32 0)))
        (broadcastInDim S2048x2048 ![0, 1] bcast_S2048x1_S2048x2048_0_1 (broadcastInDim S2048x1 ![0] bcast_S2048_S2048x1_0 (iotaInDim S2048 32 0)))))
      natLt_1_32) (constantI S_ 32 0#32) reducesTo_S2048x2048_S2048_d1 h_S_))
    (broadcastInDim S2048x1 ![] bcast_S_S2048x1 (constantI S_ 32 102#32))

/-- A signed comparison of two small words compares the numbers. -/
theorem slt_small {a b : ℕ} (ha : a < 2 ^ 31) (hb : b < 2 ^ 31) :
    IntOp.cmpi .slt (BitVec.ofNat 32 a) (BitVec.ofNat 32 b) = BitVec.ofBool (decide (a < b)) := by
  show BitVec.ofBool (decide ((BitVec.ofNat 32 a).toInt < (BitVec.ofNat 32 b).toInt)) = _
  rw [toInt_small ha, toInt_small hb]
  simp

/-- The conjunction of two truth values. -/
theorem and_ofBool (p q : Bool) : IntOp.andi (BitVec.ofBool p) (BitVec.ofBool q) = BitVec.ofBool (p && q) := by
  cases p <;> cases q <;> rfl

/-- Two words compare equal exactly if they are equal. -/
theorem eq_word (a b : BitVec 32) : IntOp.cmpi .eq a b = BitVec.ofBool (decide (a = b)) := by
  by_cases h : a = b
  · simp [IntOp.cmpi, h]
  · simp [IntOp.cmpi, h, beq_eq_false_iff_ne.mpr h]

variable (ri : Vec Ideal S2048x1 .i32)

/-- How many tokens before `t` made its choice. -/
theorem earlier_count (t : Fin 2048) (e : ℕ) (ht : ri (ix2 t 0) = BitVec.ofNat 32 e) :
    (Finset.univ.filter fun k : Fin 2048 => IntOp.andi (IntOp.cmpi .eq (ri (ix2 t 0)) (ri (ix2 k 0)))
      (IntOp.cmpi .slt (BitVec.ofNat 32 k.val) (BitVec.ofNat 32 t.val)) = 1#1).card = ∑ i ∈ Finset.range t.val, hit ri e i := by
  have hp : ∀ k : Fin 2048, (if IntOp.andi (IntOp.cmpi .eq (ri (ix2 t 0)) (ri (ix2 k 0)))
      (IntOp.cmpi .slt (BitVec.ofNat 32 k.val) (BitVec.ofNat 32 t.val)) = 1#1 then 1 else 0) = (fun i : ℕ => if i < t.val then hit ri e i else 0) k.val := fun k => by
    have hk := k.isLt
    have ht' := t.isLt
    rw [eq_word, slt_small (by omega) (by omega), and_ofBool, ht, ← tok_fin ri k]
    simp only [hit]
    by_cases h1 : tok ri k.val = BitVec.ofNat 32 e
    · by_cases h2 : k.val < t.val <;> simp [h1, h2]
    · by_cases h2 : k.val < t.val <;> simp [h1, h2, Ne.symm h1]
  rw [Finset.card_filter, Finset.sum_congr rfl fun k _ => hp k, Fin.sum_univ_eq_sum_range (fun i : ℕ => if i < t.val then hit ri e i else 0),
    ← Finset.sum_filter]
  refine Finset.sum_congr (Finset.ext fun i => ?_) fun _ _ => rfl
  have ht' := t.isLt
  rw [Finset.mem_filter, Finset.mem_range, Finset.mem_range]
  omega

/-- Whether a token's own expert had a place left. -/
theorem keptCol_apply (t : Fin 2048) (e : ℕ) (ht : ri (ix2 t 0) = BitVec.ofNat 32 e) :
    keptCol ri (ix2 t 0) = BitVec.ofBool (decide (∑ i ∈ Finset.range t.val, hit ri e i < 102)) := by
  pointwise [keptCol]
  rw [IndicatorCount.fold_addi_setWidth_eq_card, earlier_count ri t e ht]
  have hc := count_le ri e t.val
  have ht' := t.isLt
  exact slt_small (by omega) (by omega)

/-- A token is one of the first 102 of its expert exactly if fewer than 102 come before it. -/
theorem keeps_iff (e t : ℕ) : Keeps ri e t ↔ tok ri t = BitVec.ofNat 32 e ∧ ∑ i ∈ Finset.range t, hit ri e i < 102 := by
  refine and_congr_right fun h => ?_
  have h1 : hit ri e t = 1 := if_pos h
  rw [Finset.sum_range_succ, h1]
  omega

/-- The reference's condition for a token and an expert. -/
theorem chosen_apply (t : Fin 2048) (e : ℕ) :
    IntOp.andi (IntOp.cmpi .eq (ri (ix2 t 0)) (BitVec.ofNat 32 e)) (keptCol ri (ix2 t 0)) = BitVec.ofBool (decide (Keeps ri e t.val)) := by
  rw [eq_word]
  by_cases h : ri (ix2 t 0) = BitVec.ofNat 32 e
  · rw [keptCol_apply ri t e h, and_ofBool]
    refine congrArg BitVec.ofBool ?_
    rw [Bool.eq_iff_iff, Bool.and_eq_true, decide_eq_true_iff, decide_eq_true_iff, decide_eq_true_iff, keeps_iff, tok_fin]
  · have hn : ¬Keeps ri e t.val := fun hk => h ((tok_fin ri t).symm.trans hk.1)
    rw [decide_eq_false h, decide_eq_false hn]
    exact BitVec.zero_and

/-- The reference's result. -/
def refOut (x : FVec Ideal S2048x512 .bf16) (ri : IVec S2048x1 32) (w : FVec Ideal S16x512x1024 .bf16) : FVec Ideal S2048x1024 .f32 :=
  Host.reduceAdd (select (broadcastInDim S2048x16x1024 ![0, 1, 2] bcast_S2048x16x1_S2048x16x1024_0_1_2 (broadcastInDim S2048x16x1 ![0, 1] bcast_S2048x16_S2048x16x1_0_1
      (andi (cmpi .eq (broadcastInDim S2048x16 ![0, 1] bcast_S2048x1_S2048x16_0_1 ri)
          (broadcastInDim S2048x16 ![0, 1] bcast_S1x16_S2048x16_0_1 (broadcastInDim S1x16 ![1] bcast_S16_S1x16_1 (iotaInDim S16 32 0))))
        (broadcastInDim S2048x16 ![0, 1] bcast_S2048x1_S2048x16_0_1 (keptCol ri)))))
    (Host.dotGeneral dot_S2048x512_S16x512x1024_S2048x16x1024_1_1_0_02_n_n none (extf .f32 x bitsLt_bf16_f32) (extf .f32 w bitsLt_bf16_f32))
    (broadcastInDim S2048x16x1024 ![] bcast_S_S2048x16x1024 (id (constant S_ .f32 0x00000000#32))))
    (constant S_ .f32 0x00000000#32) reducesTo_S2048x16x1024_S2048x1024_d1 h_S_

/-- It sums, over the sixteen experts, the product with the expert that keeps the token. -/
theorem refOut_apply (x : FVec Ideal S2048x512 .bf16) (w : FVec Ideal S16x512x1024 .bf16) (t : Fin 2048) (h : Fin 1024) :
    refOut x ri w (ix2 t h) = ∑ e : Fin 16, if Keeps ri e.val t.val then ∑ i : Fin 512, x (ix2 t i) * w (ix3 e i h) else (0 : EReal) := by
  have hz : (id (constant (F := Ideal) S_ .f32 0#32) ix0 : EReal) = 0 := by
    pointwise [id]
  pointwise [refOut]
  refine Finset.sum_congr rfl fun e _ => ?_
  rw [chosen_apply, hz]
  by_cases hk : Keeps ri e.val t.val
  · rw [decide_eq_true hk, if_pos hk]; rfl
  · rw [decide_eq_false hk, if_neg hk]; rfl

end Cert.MoE

end
-- ==== Proof.Pre.lean ====
/-
  What the precondition says of the tokens: no device keeps more than 192 tokens of one chunk.
-/
module

public import proofs.«01_k».proof.Proof.Reference
public import proofs.«01_k».proof.Proof.Table
public import proofs.«01_k».proof.Pre_fits_KernelIdeal
public import proofs.«01_k».proof.Proof.Gen.Pre_fits_KernelIdeal

@[expose] public section

set_option maxRecDepth 16384

noncomputable section

namespace Cert.MoE

open Cert.Pre_fits_KernelIdeal Cert.Pre_fits_KernelIdeal.Gen
open Idealize.ShloMosaic

/-- Which tokens name one of a device's experts. -/
def localCol (ri : IVec S2048x1 32) : IVec S2048x4 1 :=
  andi
    (cmpi .sle (broadcastInDim S2048x4 ![0, 1] bcast_S1x4_S2048x4_0_1 (muli (broadcastInDim S1x4 ![] bcast_S_S1x4 (constantI S_ 32 4#32)) (broadcastInDim S1x4 ![1] bcast_S4_S1x4_1 (iotaInDim S4 32 0))))
      (broadcastInDim S2048x4 ![0, 1] bcast_S2048x1_S2048x4_0_1 ri))
    (cmpi .slt (broadcastInDim S2048x4 ![0, 1] bcast_S2048x1_S2048x4_0_1 ri)
      (broadcastInDim S2048x4 ![0, 1] bcast_S1x4_S2048x4_0_1 (addi (muli (broadcastInDim S1x4 ![] bcast_S_S1x4 (constantI S_ 32 4#32)) (broadcastInDim S1x4 ![1] bcast_S4_S1x4_1 (iotaInDim S4 32 0)))
        (broadcastInDim S1x4 ![] bcast_S_S1x4 (constantI S_ 32 4#32)))))

/-- The precondition's table: chunk by device, whether the kept tokens fit. -/
def fitTable (ri : IVec S2048x1 32) : IVec S4x4 1 :=
  cmpi .sle (Host.reduce IntOp.addi (shapeCast S4x512x4 (extui 32 (andi (localCol ri) (broadcastInDim S2048x4 ![0, 1] bcast_S2048x1_S2048x4_0_1 (keptCol ri))) natLt_1_32)
      shapeCasts_S2048x4_S4x512x4) (constantI S_ 32 0#32) reducesTo_S4x512x4_S4x4_d1 h_S_)
    (broadcastInDim S4x4 ![] bcast_S_S4x4 (constantI S_ 32 192#32))

/-- It is the precondition. -/
theorem fn_eq (x : FVec Ideal S2048x512 .bf16) (rw : FVec Ideal S512x16 .bf16) (ri : IVec S2048x1 32) (w : FVec Ideal S4x512x1024 .bf16) :
    fn (F := Ideal) x rw ri w = fitTable ri := rfl

/-- A signed comparison is one of the integers the words read as. -/
theorem sle_int (a b : BitVec 32) : IntOp.cmpi .sle a b = BitVec.ofBool (decide (a.toInt ≤ b.toInt)) := rfl
/-- and less. -/
theorem slt_int (a b : BitVec 32) : IntOp.cmpi .slt a b = BitVec.ofBool (decide (a.toInt < b.toInt)) := rfl

/-- A word between `4 s` and `4 s + 3` is one of the four. -/
theorem between (v : BitVec 32) (s : Fin 4) : ((4 * s.val : ℕ) : ℤ) ≤ v.toInt ∧ v.toInt < ((4 * s.val + 4 : ℕ) : ℤ) ↔ ∃ j : Fin 4, v = BitVec.ofNat 32 (4 * s.val + j.val) := by
  have hs := s.isLt
  constructor
  · rintro ⟨h1, h2⟩
    refine ⟨⟨(v.toInt - (4 * s.val : ℕ)).toNat, by omega⟩, BitVec.eq_of_toInt_eq ?_⟩
    rw [toInt_small (by omega)]
    push_cast
    omega
  · rintro ⟨j, rfl⟩
    have hj := j.isLt
    rw [toInt_small (by omega)]
    exact ⟨by push_cast; omega, by push_cast; omega⟩

/-- The test at an index: the token names one of the device's four experts. -/
theorem localCol_apply (ri : IVec S2048x1 32) (t : Fin 2048) (s : Fin 4) :
    localCol ri (ix2 t s) = BitVec.ofBool (decide (∃ j : Fin 4, ri (ix2 t 0) = BitVec.ofNat 32 (4 * s.val + j.val))) := by
  have hs := s.isLt
  have h1 : IntOp.muli 4#32 (BitVec.ofNat 32 s.val) = BitVec.ofNat 32 (4 * s.val) := by fin_cases s <;> rfl
  have h2 : IntOp.addi (BitVec.ofNat 32 (4 * s.val)) 4#32 = BitVec.ofNat 32 (4 * s.val + 4) := by fin_cases s <;> rfl
  pointwise [localCol]
  rw [h1, h2, sle_int, slt_int, toInt_small (by omega), toInt_small (by omega), and_ofBool]
  refine congrArg BitVec.ofBool ?_
  rw [Bool.eq_iff_iff, Bool.and_eq_true, decide_eq_true_iff, decide_eq_true_iff, decide_eq_true_iff]
  exact between _ s

/-- With the count, it says that the device keeps the token. -/
theorem local_kept (ri : IVec S2048x1 32) (t : Fin 2048) (s : Fin 4) :
    IntOp.andi (localCol ri (ix2 t s)) (keptCol ri (ix2 t 0)) = BitVec.ofBool (decide (Sends ri s.val t.val)) := by
  rw [localCol_apply]
  by_cases h : ∃ j : Fin 4, ri (ix2 t 0) = BitVec.ofNat 32 (4 * s.val + j.val)
  · rw [decide_eq_true h]
    obtain ⟨j, hj⟩ := h
    rw [keptCol_apply ri t _ hj, and_ofBool, Bool.true_and]
    refine congrArg BitVec.ofBool ?_
    rw [Bool.eq_iff_iff, decide_eq_true_iff, decide_eq_true_iff]
    constructor
    · exact fun hc => ⟨j, (keeps_iff ri _ _).mpr ⟨(tok_fin ri t).trans hj, hc⟩⟩
    · rintro ⟨j', hk⟩
      have hw : BitVec.ofNat 32 (4 * s.val + j'.val) = BitVec.ofNat 32 (4 * s.val + j.val) := (hk.1.symm.trans (tok_fin ri t)).trans hj
      have hc := ((keeps_iff ri _ _).mp hk).2
      simp only [hit, hw] at hc
      exact hc
  · have hn : ¬Sends ri s.val t.val := fun ⟨j, hk⟩ => h ⟨j, (tok_fin ri t).symm.trans hk.1⟩
    rw [decide_eq_false h, decide_eq_false hn]
    exact BitVec.zero_and

/-- The precondition's sum is the number of tokens of the chunk that the device keeps. -/
theorem chunk_count (ri : IVec S2048x1 32) (d s : Fin 4) :
    (Finset.univ.filter fun k : Fin 512 => IntOp.andi (localCol ri (ix2 ⟨d.val * 512 + k.val, by omega⟩ s)) (keptCol ri (ix2 ⟨d.val * 512 + k.val, by omega⟩ 0)) = 1#1).card
      = ∑ i ∈ Finset.Ico (512 * d.val) (512 * d.val + 512), sent ri s.val i := by
  have hp : ∀ k : Fin 512, (if IntOp.andi (localCol ri (ix2 ⟨d.val * 512 + k.val, by omega⟩ s)) (keptCol ri (ix2 ⟨d.val * 512 + k.val, by omega⟩ 0)) = 1#1 then 1 else 0)
      = (fun i : ℕ => sent ri s.val (512 * d.val + i)) k.val := fun k => by
    have hc : d.val * 512 + k.val = 512 * d.val + k.val := by omega
    rw [local_kept]
    simp only [hc]
    unfold sent
    by_cases hk : Sends ri s.val (512 * d.val + k.val) <;> simp [hk]
  rw [Finset.card_filter, Finset.sum_congr rfl fun k _ => hp k, Fin.sum_univ_eq_sum_range (fun i : ℕ => sent ri s.val (512 * d.val + i)),
    Finset.sum_Ico_eq_sum_range, Nat.add_sub_cancel_left]

/-- Under the precondition, every device keeps at most 192 tokens of every chunk. -/
theorem fits_count (x : FVec Ideal S2048x512 .bf16) (rw : FVec Ideal S512x16 .bf16) (ri : IVec S2048x1 32) (w : FVec Ideal S4x512x1024 .bf16)
    (hfit : fn (F := Ideal) x rw ri w = fun _ => 1#1) (d s : Fin 4) :
    ∑ i ∈ Finset.Ico (512 * d.val) (512 * d.val + 512), sent ri s.val i ≤ 192 := by
  have hb : ∑ i ∈ Finset.Ico (512 * d.val) (512 * d.val + 512), sent ri s.val i ≤ 512 := place_le ri s.val d.val 512
  have ha : fitTable ri (ix2 d s) = BitVec.ofBool (decide (((∑ i ∈ Finset.Ico (512 * d.val) (512 * d.val + 512), sent ri s.val i : ℕ) : ℤ) ≤ ((192 : ℕ) : ℤ))) := by
    pointwise [fitTable]
    rw [IndicatorCount.fold_addi_setWidth_eq_card, chunk_count ri d s, sle_int, toInt_small (by omega)]
    rfl
  have h1 : fitTable ri (ix2 d s) = 1#1 := congrFun ((fn_eq x rw ri w).symm.trans hfit) (ix2 d s)
  rw [ha] at h1
  by_contra hc
  rw [decide_eq_false (by omega)] at h1
  exact absurd h1 (by decide)

end Cert.MoE

end
-- ==== Proof.Value.lean ====
/-
  The kernel's result is the reference's: the value claim.
-/
module

public import proofs.«01_k».proof.Proof.Out
public import proofs.«01_k».proof.Proof.Pre
public import proofs.«01_k».proof.Proof.Run
public import proofs.«01_k».proof.Defs
public import proofs.«01_k».proof.Proof.Gen.ReferenceIdeal.Run

@[expose] public section

set_option maxRecDepth 16384

noncomputable section

namespace Cert.MoE

open Cert.KernelIdeal Cert.KernelIdeal.Gen
open Idealize.ShloMosaic
open Idealize.SL.Sem

/-- Device `c`'s rows of an array cut in four along its rows. -/
theorem block_rows (v : Vec Ideal ⟨2, ![2048, 1024]⟩ .f32) (c : Dev nD) (t : Fin 512) (h : Fin 1024) :
    Layout.block ⟨2, ![512, 1024]⟩ ⟨2, ![2048, 1024]⟩ 0 4 c v (by decide) (ix2 t h) = v (ix2 ⟨512 * c.val + t.val, row_lt c t⟩ h) := by
  refine congrArg v (funext fun b => Fin.ext ?_)
  fin_cases b
  · show c.val * 512 + t.val = 512 * c.val + t.val
    omega
  · rfl

/-- Device `s`'s experts of the sixteen. -/
theorem block_experts (w : Vec Ideal ⟨3, ![16, 512, 1024]⟩ .bf16) (s : Dev nD) (j : Fin 4) (i : Fin 512) (h : Fin 1024) :
    Layout.block ⟨3, ![4, 512, 1024]⟩ ⟨3, ![16, 512, 1024]⟩ 0 4 s w (by decide) (ix3 j i h) = w (ix3 ⟨4 * s.val + j.val, pair_lt (m := 4) (n := 4) rfl s j⟩ i h) := by
  refine congrArg w (funext fun b => Fin.ext ?_)
  fin_cases b
  · show s.val * 4 + j.val = 4 * s.val + j.val
    omega
  · rfl
  · rfl

/-- The block device `c` stores is its block of the reference's result. -/
theorem outC_block (x : Vec Ideal S2048x512 .bf16) (ri : Vec Ideal S2048x1 .i32) (w : Vec Ideal ⟨3, ![16, 512, 1024]⟩ .bf16) (c : Dev nD)
    (fits : ∀ s : Dev nD, ∑ i ∈ Finset.Ico (512 * c.val) (512 * c.val + 512), sent ri s.val i ≤ 192) :
    outC (F := Ideal) (fun _ => x) (fun _ => ri) (fun s => Layout.block ⟨3, ![4, 512, 1024]⟩ ⟨3, ![16, 512, 1024]⟩ 0 4 s w) c
      = Layout.block ⟨2, ![512, 1024]⟩ ⟨2, ![2048, 1024]⟩ 0 4 c (refOut x ri w) := by
  funext i
  idx_vars i
  rw [outC_apply x ri _ c i0 i1 fits]
  refine Eq.trans ?_ (block_rows (refOut x ri w) c i0 i1).symm
  rw [refOut_apply, sum_pairs (m := 4) (n := 4) rfl]
  refine Finset.sum_congr rfl fun s _ => Finset.sum_congr rfl fun j _ => ?_
  refine if_congr Iff.rfl (Finset.sum_congr rfl fun i _ => ?_) rfl
  exact congrArg (x _ * ·) (block_experts w s j i i1)

/-- From arguments cut as stated and tokens that fit, every device's result is its block of what the reference computes. -/
theorem value : Cert.algebraic_KernelIdeal_ReferenceIdeal_pre_fits_KernelIdeal := fun m ρ m' ρ' hpre harg =>
  ⟨refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    by
      have hx := funext fun c => (harg c).1
      have hr := funext fun c => (harg c).2.2.1
      have hw := funext fun c => (harg c).2.2.2
      refine (θ_run (defs (F := Ideal)) _ _).mono (fun r h c => ⟨(h.1 c).1.trans ?_, (h.1 c).2⟩) (run_main (F := Ideal) m ρ)
      unfold outAt xs ris ws
      have hf := fits_count _ _ _ _ (hpre c)
      erw [hx, hr, hw]
      refine outC_block _ _ _ c fun s => ?_
      rw [(harg c).2.2.1] at hf
      exact hf c s,
    (θ_run (Cert.ReferenceIdeal.defs (F := Ideal)) _ _).mono (fun r h => ⟨(h 0).1, (h 0).2⟩) (Cert.ReferenceIdeal.Value.run (F := Ideal) m' ρ')⟩

end Cert.MoE

end
-- ==== Proof.lean ====
/-
  The proof of the certificate's claim: the frames (Proof/Frames.lean) and the value claim
  (Proof/Value.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_fits_KernelIdeal
public import proofs.«01_k».proof.Proof.Gen.Pre_fits_ReferenceIdeal
public import proofs.«01_k».proof.Proof.Frames
public import proofs.«01_k».proof.Proof.Value

@[expose] public section

noncomputable section

namespace Cert.Proof

/-- The claim. -/
theorem claim : Cert.Claim :=
  ⟨Cert.Kernel.Gen.facts, Cert.KernelIdeal.Gen.facts, Cert.ReferenceIdeal.Gen.facts, Cert.Pre_fits_KernelIdeal.Gen.facts,
    Cert.Pre_fits_ReferenceIdeal.Gen.facts, Cert.MoE.frame_kernel, Cert.MoE.frame_ideal, Cert.MoE.frame_ideal_fits, Cert.MoE.frame_reference,
    Cert.MoE.frame_reference_fits, trivial, Cert.MoE.value⟩

end Cert.Proof

end
